-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_points [hPre_finite_points : Cert.Pre_finite_points.Facts] (m : (ℓ : Loc Cert.KernelIdeal.nD Cert.KernelIdeal.τ Cert.KernelIdeal.sig) → Buf (Elt Ideal) ℓ) : Prop :=
  ∀ c : Dev Cert.KernelIdeal.nD,
    (Cert.Pre_finite_points.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_points [hPre_finite_points : Cert.Pre_finite_points.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_points.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_points [hKernelIdeal : Cert.KernelIdeal.Facts] [hPre_finite_points : Cert.Pre_finite_points.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_points m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_points [hReferenceIdeal : Cert.ReferenceIdeal.Facts] [hPre_finite_points : Cert.Pre_finite_points.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_points m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_points [hKernelIdeal : Cert.KernelIdeal.Facts] [hReferenceIdeal : Cert.ReferenceIdeal.Facts] [hPre_finite_points : Cert.Pre_finite_points.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_points m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_points : Cert.Pre_finite_points.Facts),
    quiescent_Kernel (hKernel := hKernel)
    ∧ quiescent_KernelIdeal (hKernelIdeal := hKernelIdeal)
    ∧ quiescent_KernelIdeal_pre_finite_points (hKernelIdeal := hKernelIdeal) (hPre_finite_points := hPre_finite_points)
    ∧ quiescent_ReferenceIdeal (hReferenceIdeal := hReferenceIdeal)
    ∧ quiescent_ReferenceIdeal_pre_finite_points (hReferenceIdeal := hReferenceIdeal) (hPre_finite_points := hPre_finite_points)
    ∧ preserves_Kernel_KernelIdeal
    ∧ algebraic_KernelIdeal_ReferenceIdeal_pre_finite_points (hKernelIdeal := hKernelIdeal) (hReferenceIdeal := hReferenceIdeal) (hPre_finite_points := hPre_finite_points)
-- ==== Pre_finite_points.lean ====
abbrev S32x4x2 : Shape := ⟨3, ![32, 4, 2]⟩
abbrev S32 : Shape := ⟨1, ![32]⟩
abbrev S_ : Shape := ⟨0, ![]⟩

class Facts : Prop where
  bcast_S_S32x4x2 : S_.BroadcastsInDim S32x4x2 (![] : Fin 0 → Fin S32x4x2.rank)

variable [Facts]

def fn {F : FTy → Type} [FloatOps F] (main_arg0 : FVec F S32x4x2 .f32) (main_arg1 : FVec F S32 .f32) (main_arg2 : FVec F S32 .f32) : IVec S32x4x2 1 :=
  let main_v0 : FVec F S32x4x2 .f32 := Host.absf main_arg0
  let main_cst : FVec F S_ .f32 := constant S_ .f32 0x7F800000#32
  let main_v1 : FVec F S32x4x2 .f32 := broadcastInDim S32x4x2 ![] bcast_S_S32x4x2 main_cst
  let main_v2 : IVec S32x4x2 1 := cmpf .olt main_v0 main_v1
  main_v2
-- ==== Kernel.lean ====
abbrev S32x4x2 : Shape := ⟨3, ![32, 4, 2]⟩
abbrev S32 : Shape := ⟨1, ![32]⟩
abbrev S2 : Shape := ⟨1, ![2]⟩
abbrev S1x4 : Shape := ⟨2, ![1, 4]⟩
abbrev S4 : Shape := ⟨1, ![4]⟩
abbrev S1x1x2 : Shape := ⟨3, ![1, 1, 2]⟩
abbrev S_ : Shape := ⟨0, ![]⟩
abbrev S14 : Shape := ⟨1, ![14]⟩
abbrev S1 : Shape := ⟨1, ![1]⟩
abbrev S15 : Shape := ⟨1, ![15]⟩
abbrev S15x1 : Shape := ⟨2, ![15, 1]⟩
abbrev S15x4 : Shape := ⟨2, ![15, 4]⟩
abbrev S1x15x4x1 : Shape := ⟨4, ![1, 15, 4, 1]⟩
abbrev S32x1x4x2 : Shape := ⟨4, ![32, 1, 4, 2]⟩
abbrev S32x15x4x2 : Shape := ⟨4, ![32, 15, 4, 2]⟩
abbrev S32x15x2 : Shape := ⟨3, ![32, 15, 2]⟩
abbrev S32x15 : Shape := ⟨2, ![32, 15]⟩
abbrev S32x15x1 : Shape := ⟨3, ![32, 15, 1]⟩
abbrev S32x224x224 : Shape := ⟨3, ![32, 224, 224]⟩
abbrev S1x224x224 : Shape := ⟨3, ![1, 224, 224]⟩
abbrev S224x224 : Shape := ⟨2, ![224, 224]⟩
abbrev S1x1 : Shape := ⟨2, ![1, 1]⟩

abbrev nBuf : Space → Nat
  | .hbm => 80
  | .vmem => 5
  | .smem => 6
  | _ => 0

abbrev bufTy : (tb : Table) → Fin (tcTables nBuf tb) → BufTy
  | .hbm, ⟨0, _⟩ => ⟨S32x4x2, .f32⟩
  | .hbm, ⟨1, _⟩ => ⟨S32, .f32⟩
  | .hbm, ⟨2, _⟩ => ⟨S32, .f32⟩
  | .hbm, ⟨3, _⟩ => ⟨S2, .f32⟩
  | .hbm, ⟨4, _⟩ => ⟨S1x4, .i32⟩
  | .hbm, ⟨5, _⟩ => ⟨S4, .f32⟩
  | .hbm, ⟨6, _⟩ => ⟨S1x4, .f32⟩
  | .hbm, ⟨7, _⟩ => ⟨S1x4, .i32⟩
  | .hbm, ⟨8, _⟩ => ⟨S1x1x2, .f32⟩
  | .hbm, ⟨9, _⟩ => ⟨S32x4x2, .f32⟩
  | .hbm, ⟨10, _⟩ => ⟨S32x4x2, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S14, .f32⟩
  | .hbm, ⟨19, _⟩ => ⟨S_, .f32⟩
  | .hbm, ⟨20, _⟩ => ⟨S14, .f32⟩
  | .hbm, ⟨21, _⟩ => ⟨S14, .f32⟩
  | .hbm, ⟨22, _⟩ => ⟨S1, .f32⟩
  | .hbm, ⟨23, _⟩ => ⟨S_, .f32⟩
  | .hbm, ⟨24, _⟩ => ⟨S14, .f32⟩
  | .hbm, ⟨25, _⟩ => ⟨S14, .f32⟩
  | .hbm, ⟨26, _⟩ => ⟨S14, .f32⟩
  | .hbm, ⟨27, _⟩ => ⟨S14, .f32⟩
  | .hbm, ⟨28, _⟩ => ⟨S1, .f32⟩
  | .hbm, ⟨29, _⟩ => ⟨S14, .f32⟩
  | .hbm, ⟨30, _⟩ => ⟨S14, .f32⟩
  | .hbm, ⟨31, _⟩ => ⟨S14, .f32⟩
  | .hbm, ⟨32, _⟩ => ⟨S1, .f32⟩
  | .hbm, ⟨33, _⟩ => ⟨S15, .f32⟩
  | .hbm, ⟨34, _⟩ => ⟨S15x1, .f32⟩
  | .hbm, ⟨35, _⟩ => ⟨S1x4, .f32⟩
  | .hbm, ⟨36, _⟩ => ⟨S1x4, .f32⟩
  | .hbm, ⟨37, _⟩ => ⟨S15x4, .f32⟩
  | .hbm, ⟨38, _⟩ => ⟨S15x4, .f32⟩
  | .hbm, ⟨39, _⟩ => ⟨S15x4, .f32⟩
  | .hbm, ⟨40, _⟩ => ⟨S15x4, .f32⟩
  | .hbm, ⟨41, _⟩ => ⟨S15x4, .f32⟩
  | .hbm, ⟨42, _⟩ => ⟨S15x1, .f32⟩
  | .hbm, ⟨43, _⟩ => ⟨S_, .f32⟩
  | .hbm, ⟨44, _⟩ => ⟨S15x1, .f32⟩
  | .hbm, ⟨45, _⟩ => ⟨S15x1, .f32⟩
  | .hbm, ⟨46, _⟩ => ⟨S1x4, .f32⟩
  | .hbm, ⟨47, _⟩ => ⟨S1x4, .f32⟩
  | .hbm, ⟨48, _⟩ => ⟨S15x4, .f32⟩
  | .hbm, ⟨49, _⟩ => ⟨S15x4, .f32⟩
  | .hbm, ⟨50, _⟩ => ⟨S15x4, .f32⟩
  | .hbm, ⟨51, _⟩ => ⟨S15x4, .f32⟩
  | .hbm, ⟨52, _⟩ => ⟨S1x15x4x1, .f32⟩
  | .hbm, ⟨53, _⟩ => ⟨S32x1x4x2, .f32⟩
  | .hbm, ⟨54, _⟩ => ⟨S32x15x4x2, .f32⟩
  | .hbm, ⟨55, _⟩ => ⟨S32x15x4x2, .f32⟩
  | .hbm, ⟨56, _⟩ => ⟨S32x15x4x2, .f32⟩
  | .hbm, ⟨57, _⟩ => ⟨S_, .f32⟩
  | .hbm, ⟨58, _⟩ => ⟨S32x15x2, .f32⟩
  | .hbm, ⟨59, _⟩ => ⟨S32x15x2, .f32⟩
  | .hbm, ⟨60, _⟩ => ⟨S_, .f32⟩
  | .hbm, ⟨61, _⟩ => ⟨S32x15, .f32⟩
  | .hbm, ⟨62, _⟩ => ⟨S32x15x1, .f32⟩
  | .hbm, ⟨63, _⟩ => ⟨S32x15, .f32⟩
  | .hbm, ⟨64, _⟩ => ⟨S32x15, .bf16⟩
  | .hbm, ⟨65, _⟩ => ⟨S32x15, .f32⟩
  | .hbm, ⟨66, _⟩ => ⟨S_, .f32⟩
  | .hbm, ⟨67, _⟩ => ⟨S32x15, .f32⟩
  | .hbm, ⟨68, _⟩ => ⟨S32x15, .f32⟩
  | .hbm, ⟨69, _⟩ => ⟨S32x15x1, .f32⟩
  | .hbm, ⟨70, _⟩ => ⟨S32x15, .f32⟩
  | .hbm, ⟨71, _⟩ => ⟨S32x15, .bf16⟩
  | .hbm, ⟨72, _⟩ => ⟨S32x15, .f32⟩
  | .hbm, ⟨73, _⟩ => ⟨S_, .f32⟩
  | .hbm, ⟨74, _⟩ => ⟨S32x15, .f32⟩
  | .hbm, ⟨75, _⟩ => ⟨S32x15, .f32⟩
  | .hbm, ⟨76, _⟩ => ⟨S_, .f32⟩
  | .hbm, ⟨77, _⟩ => ⟨S32, .f32⟩
  | .hbm, ⟨78, _⟩ => ⟨S32, .f32⟩
  | .hbm, ⟨79, _⟩ => ⟨S32x224x224, .f32⟩
  | .local _ .vmem, ⟨0, _⟩ => ⟨S1x224x224, .f32⟩
  | .local _ .vmem, ⟨1, _⟩ => ⟨S1x224x224, .f32⟩
  | .local _ .vmem, ⟨2, _⟩ => ⟨S224x224, .f32⟩
  | .local _ .vmem, ⟨3, _⟩ => ⟨S224x224, .f32⟩
  | .local _ .vmem, ⟨4, _⟩ => ⟨S224x224, .f32⟩
  | .local _ .smem, ⟨0, _⟩ => ⟨S32x15, .f32⟩
  | .local _ .smem, ⟨1, _⟩ => ⟨S32x15, .f32⟩
  | .local _ .smem, ⟨2, _⟩ => ⟨S32x15, .f32⟩
  | .local _ .smem, ⟨3, _⟩ => ⟨S32, .f32⟩
  | .local _ .smem, ⟨4, _⟩ => ⟨S32, .f32⟩
  | .local _ .smem, ⟨5, _⟩ => ⟨S32, .f32⟩
  | _, _ => ⟨S32x4x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_c : Ref sig .tc := ⟨.hbm, 4, rfl⟩
abbrev main_call0_cst_0 : Ref sig .tc := ⟨.hbm, 5, rfl⟩
abbrev main_call0_v0 : Ref sig .tc := ⟨.hbm, 6, rfl⟩
abbrev main_call0_c_1 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_cst_2 : Ref sig .tc := ⟨.hbm, 11, rfl⟩
abbrev main_call0_cst_3 : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_v2 : Ref sig .tc := ⟨.hbm, 15, rfl⟩
abbrev main_call0_call0_cst : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_cst_0 : Ref sig .tc := ⟨.hbm, 19, rfl⟩
abbrev main_call0_call0_v5 : Ref sig .tc := ⟨.hbm, 20, rfl⟩
abbrev main_call0_call0_v6 : Ref sig .tc := ⟨.hbm, 21, rfl⟩
abbrev main_call0_call0_v7 : Ref sig .tc := ⟨.hbm, 22, rfl⟩
abbrev main_call0_call0_cst_1 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_call0_v12 : Ref sig .tc := ⟨.hbm, 28, rfl⟩
abbrev main_call0_call0_v13 : Ref sig .tc := ⟨.hbm, 29, rfl⟩
abbrev main_call0_call0_v14 : Ref sig .tc := ⟨.hbm, 30, rfl⟩
abbrev main_call0_call0_v15 : Ref sig .tc := ⟨.hbm, 31, rfl⟩
abbrev main_call0_call0_v16 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_v12 : Ref sig .tc := ⟨.hbm, 41, rfl⟩
abbrev main_call0_v13 : Ref sig .tc := ⟨.hbm, 42, rfl⟩
abbrev main_call0_cst_4 : Ref sig .tc := ⟨.hbm, 43, rfl⟩
abbrev main_call0_v14 : Ref sig .tc := ⟨.hbm, 44, rfl⟩
abbrev main_call0_v15 : Ref sig .tc := ⟨.hbm, 45, rfl⟩
abbrev main_call0_v16 : Ref sig .tc := ⟨.hbm, 46, rfl⟩
abbrev main_call0_v17 : Ref sig .tc := ⟨.hbm, 47, rfl⟩
abbrev main_call0_v18 : Ref sig .tc := ⟨.hbm, 48, rfl⟩
abbrev main_call0_v19 : Ref sig .tc := ⟨.hbm, 49, rfl⟩
abbrev main_call0_v20 : Ref sig .tc := ⟨.hbm, 50, rfl⟩
abbrev main_call0_v21 : Ref sig .tc := ⟨.hbm, 51, rfl⟩
abbrev main_call0_v22 : Ref sig .tc := ⟨.hbm, 52, rfl⟩
abbrev main_call0_v23 : Ref sig .tc := ⟨.hbm, 53, rfl⟩
abbrev main_call0_v24 : Ref sig .tc := ⟨.hbm, 54, rfl⟩
abbrev main_call0_v25 : Ref sig .tc := ⟨.hbm, 55, rfl⟩
abbrev main_call0_v26 : Ref sig .tc := ⟨.hbm, 56, rfl⟩
abbrev main_call0_cst_5 : Ref sig .tc := ⟨.hbm, 57, rfl⟩
abbrev main_call0_v27 : Ref sig .tc := ⟨.hbm, 58, rfl⟩
abbrev main_call0_v28 : Ref sig .tc := ⟨.hbm, 59, rfl⟩
abbrev main_call0_cst_6 : Ref sig .tc := ⟨.hbm, 60, rfl⟩
abbrev main_call0_v29 : Ref sig .tc := ⟨.hbm, 61, rfl⟩
abbrev main_call0_v30 : Ref sig .tc := ⟨.hbm, 62, rfl⟩
abbrev main_call0_v31 : Ref sig .tc := ⟨.hbm, 63, rfl⟩
abbrev main_call0_v32 : Ref sig .tc := ⟨.hbm, 64, rfl⟩
abbrev main_call0_v33 : Ref sig .tc := ⟨.hbm, 65, rfl⟩
abbrev main_call0_cst_7 : Ref sig .tc := ⟨.hbm, 66, rfl⟩
abbrev main_call0_v34 : Ref sig .tc := ⟨.hbm, 67, rfl⟩
abbrev main_call0_v35 : Ref sig .tc := ⟨.hbm, 68, rfl⟩
abbrev main_call0_v36 : Ref sig .tc := ⟨.hbm, 69, rfl⟩
abbrev main_call0_v37 : Ref sig .tc := ⟨.hbm, 70, rfl⟩
abbrev main_call0_v38 : Ref sig .tc := ⟨.hbm, 71, rfl⟩
abbrev main_call0_v39 : Ref sig .tc := ⟨.hbm, 72, rfl⟩
abbrev main_call0_cst_8 : Ref sig .tc := ⟨.hbm, 73, rfl⟩
abbrev main_call0_v40 : Ref sig .tc := ⟨.hbm, 74, rfl⟩
abbrev main_call0_v41 : Ref sig .tc := ⟨.hbm, 75, rfl⟩
abbrev main_call0_cst_9 : Ref sig .tc := ⟨.hbm, 76, rfl⟩
abbrev main_call0_v42 : Ref sig .tc := ⟨.hbm, 77, rfl⟩
abbrev main_call0_v43 : Ref sig .tc := ⟨.hbm, 78, rfl⟩
abbrev main_v0 : Ref sig .tc := ⟨.hbm, 79, rfl⟩
abbrev cc0_stg6_0 : Ref sig .tc := ⟨.vmem, 0, rfl⟩
abbrev cc0_stg6_1 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_stg5_0 : Ref sig .tc := ⟨.smem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7

abbrev nD : Nat := 1
abbrev τ : Topo := Topo.v7x

variable {F : FTy → Type} [FloatOps F]

abbrev grid0 : Pipeline.Grid := ⟨1, ![32], ![false]⟩

def k0_off1 (i : grid0.Coords) : Fin 2 → Nat :=
  let arg0 : BitVec 32 := BitVec.ofNat 32 (i 0).val
  let v6 : Index := Scalar.indexCast arg0
  let c0_6 : Index := 0#32
  ![v6.toNat, 0]
def k0_off2 (i : grid0.Coords) : Fin 2 → Nat :=
  let arg0 : BitVec 32 := BitVec.ofNat 32 (i 0).val
  let v20 : Index := Scalar.indexCast arg0
  let c1 : Index := 1#32
  ![v20.toNat, 1]
def k0_off3 (i : grid0.Coords) : Fin 2 → Nat :=
  let arg0 : BitVec 32 := BitVec.ofNat 32 (i 0).val
  let v35 : Index := Scalar.indexCast arg0
  let c2 : Index := 2#32
  ![v35.toNat, 2]
def k0_off4 (i : grid0.Coords) : Fin 2 → Nat :=
  let arg0 : BitVec 32 := BitVec.ofNat 32 (i 0).val
  let v50 : Index := Scalar.indexCast arg0
  let c3 : Index := 3#32
  ![v50.toNat, 3]
def k0_off5 (i : grid0.Coords) : Fin 2 → Nat :=
  let arg0 : BitVec 32 := BitVec.ofNat 32 (i 0).val
  let v65 : Index := Scalar.indexCast arg0
  let c4 : Index := 4#32
  ![v65.toNat, 4]
def k0_off6 (i : grid0.Coords) : Fin 2 → Nat :=
  let arg0 : BitVec 32 := BitVec.ofNat 32 (i 0).val
  let v80 : Index := Scalar.indexCast arg0
  let c5 : Index := 5#32
  ![v80.toNat, 5]
def k0_off7 (i : grid0.Coords) : Fin 2 → Nat :=
  let arg0 : BitVec 32 := BitVec.ofNat 32 (i 0).val
  let v95 : Index := Scalar.indexCast arg0
  let c6 : Index := 6#32
  ![v95.toNat, 6]
def k0_off8 (i : grid0.Coords) : Fin 2 → Nat :=
  let arg0 : BitVec 32 := BitVec.ofNat 32 (i 0).val
  let v110 : Index := Scalar.indexCast arg0
  let c7 : Index := 7#32
  ![v110.toNat, 7]
def k0_off9 (i : grid0.Coords) : Fin 2 → Nat :=
  let arg0 : BitVec 32 := BitVec.ofNat 32 (i 0).val
  let v125 : Index := Scalar.indexCast arg0
  let c8 : Index := 8#32
  ![v125.toNat, 8]
def k0_off10 (i : grid0.Coords) : Fin 2 → Nat :=
  let arg0 : BitVec 32 := BitVec.ofNat 32 (i 0).val
  let v140 : Index := Scalar.indexCast arg0
  let c9 : Index := 9#32
  ![v140.toNat, 9]
def k0_off11 (i : grid0.Coords) : Fin 2 → Nat :=
  let arg0 : BitVec 32 := BitVec.ofNat 32 (i 0).val
  let v155 : Index := Scalar.indexCast arg0
  let c10 : Index := 10#32
  ![v155.toNat, 10]
def k0_off12 (i : grid0.Coords) : Fin 2 → Nat :=
  let arg0 : BitVec 32 := BitVec.ofNat 32 (i 0).val
  let v170 : Index := Scalar.indexCast arg0
  let c11 : Index := 11#32
  ![v170.toNat, 11]
def k0_off13 (i : grid0.Coords) : Fin 2 → Nat :=
  let arg0 : BitVec 32 := BitVec.ofNat 32 (i 0).val
  let v185 : Index := Scalar.indexCast arg0
  let c12 : Index := 12#32
  ![v185.toNat, 12]
def k0_off14 (i : grid0.Coords) : Fin 2 → Nat :=
  let arg0 : BitVec 32 := BitVec.ofNat 32 (i 0).val
  let v200 : Index := Scalar.indexCast arg0
  let c13 : Index := 13#32
  ![v200.toNat, 13]
def k0_off15 (i : grid0.Coords) : Fin 2 → Nat :=
  let arg0 : BitVec 32 := BitVec.ofNat 32 (i 0).val
  let v215 : Index := Scalar.indexCast arg0
  let c14 : Index := 14#32
  ![v215.toNat, 14]
def k0_off16 (i : grid0.Coords) : Fin 1 → Nat :=
  let arg0 : BitVec 32 := BitVec.ofNat 32 (i 0).val
  let v235 : Index := Scalar.indexCast arg0
  ![v235.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S32x15 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S32x15 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S32x15 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x224x224 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S32x4x2 : Shape := ⟨3, ![32, 4, 2]⟩
abbrev S32 : Shape := ⟨1, ![32]⟩
abbrev S2 : Shape := ⟨1, ![2]⟩
abbrev S1x4 : Shape := ⟨2, ![1, 4]⟩
abbrev S4 : Shape := ⟨1, ![4]⟩
abbrev S1x1x2 : Shape := ⟨3, ![1, 1, 2]⟩
abbrev S_ : Shape := ⟨0, ![]⟩
abbrev S14 : Shape := ⟨1, ![14]⟩
abbrev S1 : Shape := ⟨1, ![1]⟩
abbrev S15 : Shape := ⟨1, ![15]⟩
abbrev S15x1 : Shape := ⟨2, ![15, 1]⟩
abbrev S15x4 : Shape := ⟨2, ![15, 4]⟩
abbrev S32x2x15 : Shape := ⟨3, ![32, 2, 15]⟩
abbrev S32x15x2 : Shape := ⟨3, ![32, 15, 2]⟩
abbrev S224 : Shape := ⟨1, ![224]⟩
abbrev S224x224 : Shape := ⟨2, ![224, 224]⟩
abbrev S50176 : Shape := ⟨1, ![50176]⟩
abbrev S50176x1 : Shape := ⟨2, ![50176, 1]⟩
abbrev S50176x2 : Shape := ⟨2, ![50176, 2]⟩
abbrev S32x15 : Shape := ⟨2, ![32, 15]⟩
abbrev S32x15x50176 : Shape := ⟨3, ![32, 15, 50176]⟩
abbrev S32x50176x15 : Shape := ⟨3, ![32, 50176, 15]⟩
abbrev S1x50176x1 : Shape := ⟨3, ![1, 50176, 1]⟩
abbrev S32x1x15 : Shape := ⟨3, ![32, 1, 15]⟩
abbrev S32x50176 : Shape := ⟨2, ![32, 50176]⟩
abbrev S32x1 : Shape := ⟨2, ![32, 1]⟩
abbrev S32x224x224 : Shape := ⟨3, ![32, 224, 224]⟩

abbrev nBuf : Space → Nat
  | .hbm => 109
  | .vmem => 0
  | .smem => 0
  | _ => 0

abbrev bufTy : (tb : Table) → Fin (tcTables nBuf tb) → BufTy
  | .hbm, ⟨0, _⟩ => ⟨S32x4x2, .f32⟩
  | .hbm, ⟨1, _⟩ => ⟨S32, .f32⟩
  | .hbm, ⟨2, _⟩ => ⟨S32, .f32⟩
  | .hbm, ⟨3, _⟩ => ⟨S2, .f32⟩
  | .hbm, ⟨4, _⟩ => ⟨S1x4, .i32⟩
  | .hbm, ⟨5, _⟩ => ⟨S4, .f32⟩
  | .hbm, ⟨6, _⟩ => ⟨S1x4, .f32⟩
  | .hbm, ⟨7, _⟩ => ⟨S1x4, .i32⟩
  | .hbm, ⟨8, _⟩ => ⟨S1x1x2, .f32⟩
  | .hbm, ⟨9, _⟩ => ⟨S32x4x2, .f32⟩
  | .hbm, ⟨10, _⟩ => ⟨S32x4x2, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S14, .f32⟩
  | .hbm, ⟨19, _⟩ => ⟨S_, .f32⟩
  | .hbm, ⟨20, _⟩ => ⟨S14, .f32⟩
  | .hbm, ⟨21, _⟩ => ⟨S14, .f32⟩
  | .hbm, ⟨22, _⟩ => ⟨S1, .f32⟩
  | .hbm, ⟨23, _⟩ => ⟨S_, .f32⟩
  | .hbm, ⟨24, _⟩ => ⟨S14, .f32⟩
  | .hbm, ⟨25, _⟩ => ⟨S14, .f32⟩
  | .hbm, ⟨26, _⟩ => ⟨S14, .f32⟩
  | .hbm, ⟨27, _⟩ => ⟨S14, .f32⟩
  | .hbm, ⟨28, _⟩ => ⟨S1, .f32⟩
  | .hbm, ⟨29, _⟩ => ⟨S14, .f32⟩
  | .hbm, ⟨30, _⟩ => ⟨S14, .f32⟩
  | .hbm, ⟨31, _⟩ => ⟨S14, .f32⟩
  | .hbm, ⟨32, _⟩ => ⟨S1, .f32⟩
  | .hbm, ⟨33, _⟩ => ⟨S15, .f32⟩
  | .hbm, ⟨34, _⟩ => ⟨S15x1, .f32⟩
  | .hbm, ⟨35, _⟩ => ⟨S1x4, .f32⟩
  | .hbm, ⟨36, _⟩ => ⟨S1x4, .f32⟩
  | .hbm, ⟨37, _⟩ => ⟨S15x4, .f32⟩
  | .hbm, ⟨38, _⟩ => ⟨S15x4, .f32⟩
  | .hbm, ⟨39, _⟩ => ⟨S15x4, .f32⟩
  | .hbm, ⟨40, _⟩ => ⟨S15x4, .f32⟩
  | .hbm, ⟨41, _⟩ => ⟨S15x4, .f32⟩
  | .hbm, ⟨42, _⟩ => ⟨S15x1, .f32⟩
  | .hbm, ⟨43, _⟩ => ⟨S_, .f32⟩
  | .hbm, ⟨44, _⟩ => ⟨S15x1, .f32⟩
  | .hbm, ⟨45, _⟩ => ⟨S15x1, .f32⟩
  | .hbm, ⟨46, _⟩ => ⟨S1x4, .f32⟩
  | .hbm, ⟨47, _⟩ => ⟨S1x4, .f32⟩
  | .hbm, ⟨48, _⟩ => ⟨S15x4, .f32⟩
  | .hbm, ⟨49, _⟩ => ⟨S15x4, .f32⟩
  | .hbm, ⟨50, _⟩ => ⟨S15x4, .f32⟩
  | .hbm, ⟨51, _⟩ => ⟨S15x4, .f32⟩
  | .hbm, ⟨52, _⟩ => ⟨S32x2x15, .f32⟩
  | .hbm, ⟨53, _⟩ => ⟨S32x15x2, .f32⟩
  | .hbm, ⟨54, _⟩ => ⟨S224, .f32⟩
  | .hbm, ⟨55, _⟩ => ⟨S224, .f32⟩
  | .hbm, ⟨56, _⟩ => ⟨S224x224, .f32⟩
  | .hbm, ⟨57, _⟩ => ⟨S224x224, .f32⟩
  | .hbm, ⟨58, _⟩ => ⟨S50176, .f32⟩
  | .hbm, ⟨59, _⟩ => ⟨S50176, .f32⟩
  | .hbm, ⟨60, _⟩ => ⟨S50176x1, .f32⟩
  | .hbm, ⟨61, _⟩ => ⟨S50176x1, .f32⟩
  | .hbm, ⟨62, _⟩ => ⟨S50176x2, .f32⟩
  | .hbm, ⟨63, _⟩ => ⟨S50176x2, .f32⟩
  | .hbm, ⟨64, _⟩ => ⟨S_, .f32⟩
  | .hbm, ⟨65, _⟩ => ⟨S50176, .f32⟩
  | .hbm, ⟨66, _⟩ => ⟨S32x15x2, .f32⟩
  | .hbm, ⟨67, _⟩ => ⟨S_, .f32⟩
  | .hbm, ⟨68, _⟩ => ⟨S32x15, .f32⟩
  | .hbm, ⟨69, _⟩ => ⟨S32x15x50176, .f32⟩
  | .hbm, ⟨70, _⟩ => ⟨S32x50176x15, .f32⟩
  | .hbm, ⟨71, _⟩ => ⟨S1x50176x1, .f32⟩
  | .hbm, ⟨72, _⟩ => ⟨S_, .f32⟩
  | .hbm, ⟨73, _⟩ => ⟨S32x50176x15, .f32⟩
  | .hbm, ⟨74, _⟩ => ⟨S32x50176x15, .f32⟩
  | .hbm, ⟨75, _⟩ => ⟨S32x50176x15, .f32⟩
  | .hbm, ⟨76, _⟩ => ⟨S32x50176x15, .f32⟩
  | .hbm, ⟨77, _⟩ => ⟨S32x1x15, .f32⟩
  | .hbm, ⟨78, _⟩ => ⟨S32x50176x15, .f32⟩
  | .hbm, ⟨79, _⟩ => ⟨S32x50176x15, .f32⟩
  | .hbm, ⟨80, _⟩ => ⟨S_, .f32⟩
  | .hbm, ⟨81, _⟩ => ⟨S_, .f32⟩
  | .hbm, ⟨82, _⟩ => ⟨S32x50176x15, .f32⟩
  | .hbm, ⟨83, _⟩ => ⟨S32x50176x15, .f32⟩
  | .hbm, ⟨84, _⟩ => ⟨S_, .f32⟩
  | .hbm, ⟨85, _⟩ => ⟨S32x50176x15, .f32⟩
  | .hbm, ⟨86, _⟩ => ⟨S32x50176x15, .f32⟩
  | .hbm, ⟨87, _⟩ => ⟨S32x50176x15, .f32⟩
  | .hbm, ⟨88, _⟩ => ⟨S_, .f32⟩
  | .hbm, ⟨89, _⟩ => ⟨S32x50176, .f32⟩
  | .hbm, ⟨90, _⟩ => ⟨S32x1, .f32⟩
  | .hbm, ⟨91, _⟩ => ⟨S32x50176, .f32⟩
  | .hbm, ⟨92, _⟩ => ⟨S32x50176, .f32⟩
  | .hbm, ⟨93, _⟩ => ⟨S_, .f32⟩
  | .hbm, ⟨94, _⟩ => ⟨S32x50176, .f32⟩
  | .hbm, ⟨95, _⟩ => ⟨S32x50176, .f32⟩
  | .hbm, ⟨96, _⟩ => ⟨S32x1, .f32⟩
  | .hbm, ⟨97, _⟩ => ⟨S32x50176, .f32⟩
  | .hbm, ⟨98, _⟩ => ⟨S32x50176, .f32⟩
  | .hbm, ⟨99, _⟩ => ⟨S_, .f32⟩
  | .hbm, ⟨100, _⟩ => ⟨S32x50176, .f32⟩
  | .hbm, ⟨101, _⟩ => ⟨S32x50176, .f32⟩
  | .hbm, ⟨102, _⟩ => ⟨S32x50176, .f32⟩
  | .hbm, ⟨103, _⟩ => ⟨S32x50176, .i1⟩
  | .hbm, ⟨104, _⟩ => ⟨S_, .f32⟩
  | .hbm, ⟨105, _⟩ => ⟨S_, .f32⟩
  | .hbm, ⟨106, _⟩ => ⟨S32x50176, .f32⟩
  | .hbm, ⟨107, _⟩ => ⟨S32x50176, .f32⟩
  | .hbm, ⟨108, _⟩ => ⟨S32x224x224, .f32⟩
  | _, _ => ⟨S32x4x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_c : Ref sig .tc := ⟨.hbm, 4, rfl⟩
abbrev main_cst_0 : Ref sig .tc := ⟨.hbm, 5, rfl⟩
abbrev main_v0 : Ref sig .tc := ⟨.hbm, 6, rfl⟩
abbrev main_c_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_2 : Ref sig .tc := ⟨.hbm, 11, rfl⟩
abbrev main_cst_3 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_cst : Ref sig .tc := ⟨.hbm, 16, rfl⟩
abbrev main_call0_v3 : Ref sig .tc := ⟨.hbm, 17, rfl⟩
abbrev main_call0_v4 : Ref sig .tc := ⟨.hbm, 18, rfl⟩
abbrev main_call0_cst_0 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_v15 : Ref sig .tc := ⟨.hbm, 31, rfl⟩
abbrev main_call0_v16 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_cst_4 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_5 : Ref sig .tc := ⟨.hbm, 64, rfl⟩
abbrev main_v34 : Ref sig .tc := ⟨.hbm, 65, rfl⟩
abbrev main_v35 : Ref sig .tc := ⟨.hbm, 66, rfl⟩
abbrev main_cst_6 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_7 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_cst_8 : Ref sig .tc := ⟨.hbm, 80, rfl⟩
abbrev main_call1_v0 : Ref sig .tc := ⟨.hbm, 81, rfl⟩
abbrev main_call1_v1 : Ref sig .tc := ⟨.hbm, 82, rfl⟩
abbrev main_v47 : Ref sig .tc := ⟨.hbm, 83, rfl⟩
abbrev main_cst_9 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_cst_10 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_cst_11 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_cst_12 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_13 : Ref sig .tc := ⟨.hbm, 104, rfl⟩
abbrev main_call2_v0 : Ref sig .tc := ⟨.hbm, 105, rfl⟩
abbrev main_call2_v1 : Ref sig .tc := ⟨.hbm, 106, rfl⟩
abbrev main_v64 : Ref sig .tc := ⟨.hbm, 107, rfl⟩
abbrev main_v65 : Ref sig .tc := ⟨.hbm, 108, rfl⟩

abbrev nD : Nat := 1
abbrev τ : Topo := Topo.v7x

variable {F : FTy → Type} [FloatOps F]
-- ==== Proof.Block.lean ====
/-
  What the kernel's body leaves at one grid point: the output block, pixel by pixel, as a formula of the six tables
  and of the three coordinate tables, and the coordinate tables themselves at the first point.
-/
module

public import proofs.«01_k».proof.Proof.Gen.KernelIdeal.Value
public import Idealize.ShloMosaic.Lib.ValueIdxCore
public import Idealize.ShloMosaic.Lib.Tactic
public import Idealize.ShloMosaic.PureOps.Ideal.Laws

@[expose] public section

noncomputable section

namespace Cert.KernelIdeal.Hand

open Cert.KernelIdeal Cert.KernelIdeal.Gen Idealize.ShloMosaic Idealize.ShloMosaic.TcCoe Idealize.SL.Sem Idealize.ShloMosaic.ValueIdx

/-! ## The formulas -/

/-- The squared distance the kernel computes from one pixel to one sample. -/
def kdist (y x p ym xm s2 : EReal) : EReal := (p + (y * ym + x * xm)) + s2

/-- The least of fifteen values, taken in order. -/
def least (T : Fin 15 → EReal) : EReal :=
  min (min (min (min (min (min (min (min (min (min (min (min (min (min (T 0) (T 1)) (T 2)) (T 3)) (T 4)) (T 5)) (T 6)) (T 7))
    (T 8)) (T 9)) (T 10)) (T 11)) (T 12)) (T 13)) (T 14)

/-- The distance of a pixel whose least squared distance is `m`. -/
def kdmin (m : EReal) : EReal :=
  Ideal.sqrt (max m (Ideal.ofBits .f32 0x00000000#32) + Ideal.ofBits .f32 0x2B8CBCCC#32)

/-- The shade the kernel gives a pixel at distance `d`. -/
def kshade (d w wr a : EReal) : EReal :=
  Scalar.select (Ideal.cmp .olt d w)
    (Ideal.ofBits .f32 0x3F800000#32 - Ideal.exp (a * Ideal.log (d * wr + Ideal.ofBits .f32 0x358637BD#32)))
    (Ideal.ofBits .f32 0x00000000#32)

/-- One pixel of the block of grid point `b`: `x0 … x5` are the six tables, `y x p` the pixel's coordinates and the sum of their squares. -/
def kpixel (b : Fin 32) (x0 x1 x2 : Vec Ideal S32x15 .f32) (x3 x4 x5 : Vec Ideal S32 .f32) (y x p : EReal) : EReal :=
  kshade (kdmin (least fun s => kdist y x p (x1 (ix2 b s)) (x2 (ix2 b s)) (x0 (ix2 b s))))
    (x3 (ix1 b)) (x4 (ix1 b)) (x5 (ix1 b))

/-! ## Loads -/

theorem zero3 : (![0, 0, 0] : Fin 3 → Nat) = fun _ => 0 := funext fun a => by fin_cases a <;> rfl
theorem zero2 : (![0, 0] : Fin 2 → Nat) = fun _ => 0 := funext fun a => by fin_cases a <;> rfl

/-- The grid coordinate, as the kernel computes it. -/
def coord (i : grid0.Coords) : Fin 32 :=
  ⟨BitVec.toNat (Scalar.indexCast (BitVec.ofNat 32 (i 0).val)), k0_off16_inb i 0⟩

/-- It is the grid coordinate. -/
theorem coord_eq (i : grid0.Coords) : coord i = i 0 := by
  have h : (i 0).val < 32 := (i 0).isLt
  apply Fin.ext
  show BitVec.toNat (Scalar.indexCast (BitVec.ofNat 32 (i 0).val)) = (i 0).val
  unfold Scalar.indexCast
  simp
  omega

/-- A one-element load of a 32 × 15 table, at the grid coordinate and column `s`. -/
def pick (x : Vec Ideal S32x15 .f32) (i : grid0.Coords) (s : Fin 15) : EReal :=
  View.ld (Val := Elt Ideal) x (Rect.unit (s := S32x15) ![(coord i).val, s.val] ![1, 1]
    (fun k => by fin_cases k; · exact (coord i).isLt
                 · exact s.isLt)) (Shape.Idx.first numel1_S1x1.ge)

/-- It reads the element there. -/
theorem pick_eq (x : Vec Ideal S32x15 .f32) (i : grid0.Coords) (s : Fin 15) : pick x i s = x (ix2 (coord i) s) := by
  show x _ = x _
  congr 1
  funext k
  apply Fin.ext
  fin_cases k <;> rfl

/-- A one-element load of a table of 32, at the grid coordinate. -/
def pick1 (x : Vec Ideal S32 .f32) (i : grid0.Coords) : EReal :=
  View.ld (Val := Elt Ideal) x (Rect.unit (s := S32) ![(coord i).val] ![1]
    (fun k => by fin_cases k; exact (coord i).isLt)) (Shape.Idx.first numel1_S1.ge)

/-- It reads the element there. -/
theorem pick1_eq (x : Vec Ideal S32 .f32) (i : grid0.Coords) : pick1 x i = x (ix1 (coord i)) := by
  show x _ = x _
  congr 1
  funext k
  apply Fin.ext
  fin_cases k
  rfl

/-- One pixel of a block, its tables read by loads. -/
def lpixel (i : grid0.Coords) (x0 x1 x2 : Vec Ideal S32x15 .f32) (x3 x4 x5 : Vec Ideal S32 .f32) (y x p : EReal) : EReal :=
  kshade (kdmin (least fun s => kdist y x p (pick x1 i s) (pick x2 i s) (pick x0 i s))) (pick1 x3 i) (pick1 x4 i) (pick1 x5 i)

/-- The loads read the tables at the grid coordinate. -/
theorem lpixel_eq (i : grid0.Coords) (x0 x1 x2 : Vec Ideal S32x15 .f32) (x3 x4 x5 : Vec Ideal S32 .f32) (y x p : EReal) :
    lpixel i x0 x1 x2 x3 x4 x5 y x p = kpixel (coord i) x0 x1 x2 x3 x4 x5 y x p := by
  unfold lpixel kpixel
  simp only [pick_eq, pick1_eq]

/-- Dropping the block's leading unit coordinate. -/
theorem drop_lead (r q : Fin 224) :
    (fun a : Fin 2 => (ix3 (0 : Fin 1) r q : S1x224x224.Idx) a.succ) = (ix2 r q : S224x224.Idx) :=
  funext fun a => by fin_cases a <;> rfl

/-! ## The output block -/

/-- At a later point the body leaves, at pixel `(r, q)` of its block, the formula of the tables as the point before left them. -/
theorem out_later (c : Dev nD) (i : grid0.Coords) (arg1 : Memref sig .tc .smem S32x15 .f32) (harg1 : arg1.IsWhole) (arg2 : Memref sig .tc .smem S32x15 .f32) (harg2 : arg2.IsWhole) (arg3 : Memref sig .tc .smem S32x15 .f32) (harg3 : arg3.IsWhole) (arg4 : Memref sig .tc .smem S32 .f32) (harg4 : arg4.IsWhole) (arg5 : Memref sig .tc .smem S32 .f32) (harg5 : arg5.IsWhole) (arg6 : Memref sig .tc .smem S32 .f32) (harg6 : arg6.IsWhole) (arg7 : Memref sig .tc .vmem S1x224x224 .f32) (harg7 : arg7.IsWhole) (arg8 : Memref sig .tc .vmem S224x224 .f32) (harg8 : arg8.IsWhole) (arg9 : Memref sig .tc .vmem S224x224 .f32) (harg9 : arg9.IsWhole) (arg10 : Memref sig .tc .vmem S224x224 .f32) (harg10 : arg10.IsWhole) (hc0 : ¬cond0_0 i)
    (x0 x1 x2 : Vec Ideal S32x15 .f32) (x3 x4 x5 : Vec Ideal S32 .f32) (xs0 xs1 xs2 : Vec Ideal S224x224 .f32) (r q : Fin 224) :
    out0_B_6 c i arg1 harg1 arg2 harg2 arg3 harg3 arg4 harg4 arg5 harg5 arg6 harg6 arg7 harg7 arg8 harg8 arg9 harg9 arg10 harg10 hc0 x0 x1 x2 x3 x4 x5 xs0 xs1 xs2 (ix3 0 r q)
      = kpixel (coord i) x0 x1 x2 x3 x4 x5 (xs0 (ix2 r q)) (xs1 (ix2 r q)) (xs2 (ix2 r q)) := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 hc0 x0 x1 x2 x3 x4 x5 xs0 xs1 xs2)]
  unfold kernelRun0_B
  dsimp only
  sl_unfold_words
  rw [View.canon_unit_zero zero3]
  simp only [View.readAt_eq_ld, harg1.read_unread, harg2.read_unread, harg3.read_unread, harg4.read_unread, harg5.read_unread, harg6.read_unread, harg8.read_unread, harg9.read_unread, harg10.read_unread, View.ld_unit_zero (S := S224x224) zero2]
  rw [← lpixel_eq]
  unfold k0_pay1
  rw [shapeCast_addUnit_apply]
  refine (congrArg _ (drop_lead r q)).trans ?_
  rfl

/-- At the first point the body leaves the same formula of the coordinate tables it has just stored. -/
theorem out_first (c : Dev nD) (i : grid0.Coords) (arg1 : Memref sig .tc .smem S32x15 .f32) (harg1 : arg1.IsWhole) (arg2 : Memref sig .tc .smem S32x15 .f32) (harg2 : arg2.IsWhole) (arg3 : Memref sig .tc .smem S32x15 .f32) (harg3 : arg3.IsWhole) (arg4 : Memref sig .tc .smem S32 .f32) (harg4 : arg4.IsWhole) (arg5 : Memref sig .tc .smem S32 .f32) (harg5 : arg5.IsWhole) (arg6 : Memref sig .tc .smem S32 .f32) (harg6 : arg6.IsWhole) (arg7 : Memref sig .tc .vmem S1x224x224 .f32) (harg7 : arg7.IsWhole) (arg8 : Memref sig .tc .vmem S224x224 .f32) (harg8 : arg8.IsWhole) (arg9 : Memref sig .tc .vmem S224x224 .f32) (harg9 : arg9.IsWhole) (arg10 : Memref sig .tc .vmem S224x224 .f32) (harg10 : arg10.IsWhole) (hc0 : cond0_0 i)
    (x0 x1 x2 : Vec Ideal S32x15 .f32) (x3 x4 x5 : Vec Ideal S32 .f32) (r q : Fin 224) :
    out0_A_6 c i arg1 harg1 arg2 harg2 arg3 harg3 arg4 harg4 arg5 harg5 arg6 harg6 arg7 harg7 arg8 harg8 arg9 harg9 arg10 harg10 hc0 x0 x1 x2 x3 x4 x5 (ix3 0 r q)
      = kpixel (coord i) x0 x1 x2 x3 x4 x5 (k0_pay4 (F := Ideal) (ix2 r q)) (k0_pay5 (F := Ideal) (ix2 r q)) (k0_pay6 (F := Ideal) (ix2 r q)) := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  rw [View.canon_unit_zero zero3]
  simp only [View.readAt_eq_ld, harg1.read_unread, harg2.read_unread, harg3.read_unread, harg4.read_unread, harg5.read_unread, harg6.read_unread, View.readCov_unit_zero (S := S224x224) _ zero2]
  rw [← lpixel_eq]
  unfold k0_pay1
  rw [shapeCast_addUnit_apply]
  refine (congrArg _ (drop_lead r q)).trans ?_
  rfl

/-- The row table that the first point stores. -/
theorem table_first_0 (c : Dev nD) (i : grid0.Coords) (arg1 : Memref sig .tc .smem S32x15 .f32) (harg1 : arg1.IsWhole) (arg2 : Memref sig .tc .smem S32x15 .f32) (harg2 : arg2.IsWhole) (arg3 : Memref sig .tc .smem S32x15 .f32) (harg3 : arg3.IsWhole) (arg4 : Memref sig .tc .smem S32 .f32) (harg4 : arg4.IsWhole) (arg5 : Memref sig .tc .smem S32 .f32) (harg5 : arg5.IsWhole) (arg6 : Memref sig .tc .smem S32 .f32) (harg6 : arg6.IsWhole) (arg7 : Memref sig .tc .vmem S1x224x224 .f32) (harg7 : arg7.IsWhole) (arg8 : Memref sig .tc .vmem S224x224 .f32) (harg8 : arg8.IsWhole) (arg9 : Memref sig .tc .vmem S224x224 .f32) (harg9 : arg9.IsWhole) (arg10 : Memref sig .tc .vmem S224x224 .f32) (harg10 : arg10.IsWhole) (hc0 : cond0_0 i)
    (x0 x1 x2 : Vec Ideal S32x15 .f32) (x3 x4 x5 : Vec Ideal S32 .f32) :
    sout0_A_0 c i arg1 harg1 arg2 harg2 arg3 harg3 arg4 harg4 arg5 harg5 arg6 harg6 arg7 harg7 arg8 harg8 arg9 harg9 arg10 harg10 hc0 x0 x1 x2 x3 x4 x5 = k0_pay4 (F := Ideal) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  rw [View.canon_unit_zero zero2]

/-- The column table that the first point stores. -/
theorem table_first_1 (c : Dev nD) (i : grid0.Coords) (arg1 : Memref sig .tc .smem S32x15 .f32) (harg1 : arg1.IsWhole) (arg2 : Memref sig .tc .smem S32x15 .f32) (harg2 : arg2.IsWhole) (arg3 : Memref sig .tc .smem S32x15 .f32) (harg3 : arg3.IsWhole) (arg4 : Memref sig .tc .smem S32 .f32) (harg4 : arg4.IsWhole) (arg5 : Memref sig .tc .smem S32 .f32) (harg5 : arg5.IsWhole) (arg6 : Memref sig .tc .smem S32 .f32) (harg6 : arg6.IsWhole) (arg7 : Memref sig .tc .vmem S1x224x224 .f32) (harg7 : arg7.IsWhole) (arg8 : Memref sig .tc .vmem S224x224 .f32) (harg8 : arg8.IsWhole) (arg9 : Memref sig .tc .vmem S224x224 .f32) (harg9 : arg9.IsWhole) (arg10 : Memref sig .tc .vmem S224x224 .f32) (harg10 : arg10.IsWhole) (hc0 : cond0_0 i)
    (x0 x1 x2 : Vec Ideal S32x15 .f32) (x3 x4 x5 : Vec Ideal S32 .f32) :
    sout0_A_1 c i arg1 harg1 arg2 harg2 arg3 harg3 arg4 harg4 arg5 harg5 arg6 harg6 arg7 harg7 arg8 harg8 arg9 harg9 arg10 harg10 hc0 x0 x1 x2 x3 x4 x5 = k0_pay5 (F := Ideal) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  rw [View.canon_unit_zero zero2]

/-- The sum of squares table that the first point stores. -/
theorem table_first_2 (c : Dev nD) (i : grid0.Coords) (arg1 : Memref sig .tc .smem S32x15 .f32) (harg1 : arg1.IsWhole) (arg2 : Memref sig .tc .smem S32x15 .f32) (harg2 : arg2.IsWhole) (arg3 : Memref sig .tc .smem S32x15 .f32) (harg3 : arg3.IsWhole) (arg4 : Memref sig .tc .smem S32 .f32) (harg4 : arg4.IsWhole) (arg5 : Memref sig .tc .smem S32 .f32) (harg5 : arg5.IsWhole) (arg6 : Memref sig .tc .smem S32 .f32) (harg6 : arg6.IsWhole) (arg7 : Memref sig .tc .vmem S1x224x224 .f32) (harg7 : arg7.IsWhole) (arg8 : Memref sig .tc .vmem S224x224 .f32) (harg8 : arg8.IsWhole) (arg9 : Memref sig .tc .vmem S224x224 .f32) (harg9 : arg9.IsWhole) (arg10 : Memref sig .tc .vmem S224x224 .f32) (harg10 : arg10.IsWhole) (hc0 : cond0_0 i)
    (x0 x1 x2 : Vec Ideal S32x15 .f32) (x3 x4 x5 : Vec Ideal S32 .f32) :
    sout0_A_2 c i arg1 harg1 arg2 harg2 arg3 harg3 arg4 harg4 arg5 harg5 arg6 harg6 arg7 harg7 arg8 harg8 arg9 harg9 arg10 harg10 hc0 x0 x1 x2 x3 x4 x5 = k0_pay6 (F := Ideal) := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  rw [View.canon_unit_zero zero2]

end Cert.KernelIdeal.Hand

end
-- ==== Proof.Tables.lean ====
/-
  The three coordinate tables that the kernel writes at its first grid point, read at a pixel.
-/
module

public import proofs.«01_k».proof.Proof.Gen.KernelIdeal.Value
public import Idealize.ShloMosaic.Lib.ValueIdxCore
public import Idealize.ShloMosaic.Lib.Pointwise
public import Idealize.ShloMosaic.Lib.Pointwise.IndexBridge

@[expose] public section

noncomputable section

namespace Cert.KernelIdeal.Hand

open Cert.KernelIdeal Cert.KernelIdeal.Gen Idealize.ShloMosaic

/-- A pixel coordinate as an extended real. -/
def place (r : Fin 224) : EReal := (((r.val : ℝ) : ℝ) : EReal)

/-- The word of a pixel coordinate, read as a signed number, is the coordinate. -/
theorem word_of_place (r : Fin 224) : (((BitVec.ofNat 32 r.val).toInt : ℝ) : EReal) = place r := by
  unfold place
  have h : (BitVec.ofNat 32 r.val).toInt = (r.val : ℤ) := by
    have := r.isLt
    rw [BitVec.toInt_eq_toNat_cond, BitVec.toNat_ofNat]
    split <;> omega
  rw [h, Int.cast_natCast]

/-- The table of row numbers, at a pixel. -/
theorem rows_at (r q : Fin 224) : k0_pay4 (F := Ideal) (ValueIdx.ix2 r q) = place r := by
  rw [← ix2_eq_valueIdx, ← word_of_place]
  pointwise [k0_pay4, k0_pay2]
  rfl

/-- The table of column numbers, at a pixel. -/
theorem cols_at (r q : Fin 224) : k0_pay5 (F := Ideal) (ValueIdx.ix2 r q) = place q := by
  rw [← ix2_eq_valueIdx, ← word_of_place]
  pointwise [k0_pay5, k0_pay3]
  rfl

/-- The table of the sums of squares, at a pixel. -/
theorem squares_at (r q : Fin 224) :
    k0_pay6 (F := Ideal) (ValueIdx.ix2 r q) = place r * place r + place q * place q := by
  rw [← ix2_eq_valueIdx, ← word_of_place, ← word_of_place]
  pointwise [k0_pay6, k0_pay3, k0_pay2]
  rfl

end Cert.KernelIdeal.Hand

end
-- ==== Proof.Sweep.lean ====
/-
  From one grid point to the whole result: what the three coordinate tables hold after every grid point, what each
  point's block holds, and the kernel's result at an index.
-/
module

public import proofs.«01_k».proof.Proof.Block
public import proofs.«01_k».proof.Proof.Tables

@[expose] public section

noncomputable section

namespace Cert.KernelIdeal.Hand

open Cert.KernelIdeal Cert.KernelIdeal.Gen Cert.KernelIdeal.Value Idealize.ShloMosaic Idealize.ShloMosaic.TcCoe Idealize.SL.Sem

variable (m : (ℓ : Loc nD τ sig) → Buf (Elt Ideal) ℓ)

/-! ## The coordinate tables -/

/-- After every grid point the three scratch tables hold the coordinates and the sums of squares. -/
theorem tables (c : Dev nD) : ∀ (n : ℕ) (hn : n < cfg0.N),
    (outsAt0 m c n hn).2 = (k0_pay4 (F := Ideal), k0_pay5 (F := Ideal), k0_pay6 (F := Ideal))
  | 0, hn => by
    rw [outsAt0_A m c ⟨0, hn⟩ (Nat.zero_mod _)]
    dsimp only
    rw [table_first_0, table_first_1, table_first_2]
  | n + 1, hn => by
    have hN := lt_of_lt_of_eq hn (show cfg0.N = 32 from N_0)
    have h0 : ¬ (n + 1) % 32 = 0 := by omega
    have ih := tables c n (Nat.lt_of_succ_lt hn)
    rw [outsAt0_B m c ⟨n + 1, hn⟩ h0]
    exact ih

/-! ## The six tables -/

/-- Each of the six windows stages its whole array at every point. -/
theorem iblk_0 (c : Dev nD) (t : Fin cfg0.N) : (iblk m c 0 t : Vec Ideal S32x15 .f32) = V m c main_call0_v29 := by
  funext j
  unfold iblk
  rw [View.read_apply]
  show V m c main_call0_v29 _ = V m c main_call0_v29 _
  congr 1
  funext a
  apply Fin.ext
  match a with
  | ⟨0, _⟩ => show 0 * 32 + 1 * (j 0).val = (j 0).val; omega
  | ⟨1, _⟩ => show 0 * 15 + 1 * (j 1).val = (j 1).val; omega

theorem iblk_1 (c : Dev nD) (t : Fin cfg0.N) : (iblk m c 1 t : Vec Ideal S32x15 .f32) = V m c main_call0_v35 := by
  funext j
  unfold iblk
  rw [View.read_apply]
  show V m c main_call0_v35 _ = V m c main_call0_v35 _
  congr 1
  funext a
  apply Fin.ext
  match a with
  | ⟨0, _⟩ => show 0 * 32 + 1 * (j 0).val = (j 0).val; omega
  | ⟨1, _⟩ => show 0 * 15 + 1 * (j 1).val = (j 1).val; omega

theorem iblk_2 (c : Dev nD) (t : Fin cfg0.N) : (iblk m c 2 t : Vec Ideal S32x15 .f32) = V m c main_call0_v41 := by
  funext j
  unfold iblk
  rw [View.read_apply]
  show V m c main_call0_v41 _ = V m c main_call0_v41 _
  congr 1
  funext a
  apply Fin.ext
  match a with
  | ⟨0, _⟩ => show 0 * 32 + 1 * (j 0).val = (j 0).val; omega
  | ⟨1, _⟩ => show 0 * 15 + 1 * (j 1).val = (j 1).val; omega

theorem iblk_3 (c : Dev nD) (t : Fin cfg0.N) : (iblk m c 3 t : Vec Ideal S32 .f32) = V m c main_arg1 := by
  funext j
  unfold iblk
  rw [View.read_apply]
  show V m c main_arg1 _ = V m c main_arg1 _
  congr 1
  funext a
  apply Fin.ext
  match a with
  | ⟨0, _⟩ => show 0 * 32 + 1 * (j 0).val = (j 0).val; omega

theorem iblk_4 (c : Dev nD) (t : Fin cfg0.N) : (iblk m c 4 t : Vec Ideal S32 .f32) = V m c main_call0_v43 := by
  funext j
  unfold iblk
  rw [View.read_apply]
  show V m c main_call0_v43 _ = V m c main_call0_v43 _
  congr 1
  funext a
  apply Fin.ext
  match a with
  | ⟨0, _⟩ => show 0 * 32 + 1 * (j 0).val = (j 0).val; omega

theorem iblk_5 (c : Dev nD) (t : Fin cfg0.N) : (iblk m c 5 t : Vec Ideal S32 .f32) = V m c main_arg2 := by
  funext j
  unfold iblk
  rw [View.read_apply]
  show V m c main_arg2 _ = V m c main_arg2 _
  congr 1
  funext a
  apply Fin.ext
  match a with
  | ⟨0, _⟩ => show 0 * 32 + 1 * (j 0).val = (j 0).val; omega

/-! ## The result -/

/-- The grid coordinate of point `n` is `n`. -/
theorem coord_point (n : ℕ) (hn : n < cfg0.N) (b : Fin 32) (hb : b.val = n) : coord (grid0.coords ⟨n, hn⟩) = b := by
  have hall : ∀ t : Fin grid0.N, (grid0.coords t 0).val = t.val := by decide
  rw [coord_eq]
  exact Fin.ext ((hall ⟨n, hn⟩).trans hb.symm)

/-- The pixel the kernel computes for row `r` and column `q` of image `b`, from the arrays the host part leaves. -/
def shown (c : Dev nD) (b : Fin 32) (r q : Fin 224) : EReal :=
  kpixel b (V m c main_call0_v29) (V m c main_call0_v35) (V m c main_call0_v41) (V m c main_arg1) (V m c main_call0_v43)
    (V m c main_arg2) (place r) (place q)
    ((place r) * (place r) + (place q) * (place q))

/-- Point `n`'s block holds image `n`. -/
theorem block_at (c : Dev nD) (n : ℕ) (hn : n < cfg0.N) (b : Fin 32) (hb : b.val = n) (r q : Fin 224) :
    (outsAt0 m c n hn).1 (ValueIdx.ix3 0 r q) = shown m c b r q := by
  have hN := lt_of_lt_of_eq hn (show cfg0.N = 32 from N_0)
  unfold shown
  cases n with
  | zero =>
    rw [outsAt0_A m c ⟨0, hn⟩ (Nat.zero_mod _)]
    dsimp only
    rw [out_first, rows_at, cols_at, squares_at, coord_point 0 hn b hb,
      iblk_0, iblk_1, iblk_2, iblk_3, iblk_4, iblk_5]
  | succ n =>
    have h0 : ¬ (n + 1) % 32 = 0 := by omega
    rw [outsAt0_B m c ⟨n + 1, hn⟩ h0]
    dsimp only
    have ht := tables m c n (Nat.lt_of_succ_lt hn)
    have e : outsAt0 m c (n + 1 - 1) (by omega) = outsAt0 m c n (Nat.lt_of_succ_lt hn) := rfl
    rw [out_later, e, ht]
    dsimp only
    rw [rows_at, cols_at, squares_at, coord_point (n + 1) hn b hb,
      iblk_0, iblk_1, iblk_2, iblk_3, iblk_4, iblk_5]

/-- The kernel's result at image `b`, row `r`, column `q`. -/
theorem result_at (c : Dev nD) (b : Fin 32) (r q : Fin 224) : G6 m c (ValueIdx.ix3 b r q) = shown m c b r q := by
  have hp : pt6Of (ValueIdx.ix3 b r q) = b.val := by
    show 1 * (b.val / 1 - 0) + 1 * (r.val / 224 - 0) + 1 * (q.val / 224 - 0) = b.val
    have := r.isLt
    have := q.isLt
    omega
  have hb : b.val < cfg0.N := lt_of_lt_of_eq b.isLt (show cfg0.N = 32 from N_0).symm
  have hl : loc6Of (ValueIdx.ix3 b r q) = ValueIdx.ix3 0 r q := by
    funext a
    apply Fin.ext
    match a with
    | ⟨0, _⟩ => show b.val % 1 = 0; omega
    | ⟨1, _⟩ => exact Nat.mod_eq_of_lt r.isLt
    | ⟨2, _⟩ => exact Nat.mod_eq_of_lt q.isLt
  unfold G6
  rw [dif_pos (by rw [hp]; exact hb), hl, fold0_congr m c _ _ b.val (by omega) hp, ← outsAt0_sweep m c b.val hb]
  exact block_at m c b.val hb b rfl r q

end Cert.KernelIdeal.Hand

end
-- ==== Proof.Bezier.lean ====
/-
  The curve samples: the table of the fifteen Bernstein weights, the scaled control points, and the samples, named once
  for the kernel and for the reference, and read at an index.
-/
module

public import proofs.«01_k».proof.Proof.Gen.KernelIdeal.Value
public import proofs.«01_k».proof.Proof.Gen.ReferenceIdeal.Run
public import Idealize.ShloMosaic.Lib.ValueIdxCore
public import Idealize.ShloMosaic.Lib.Pointwise

@[expose] public section

noncomputable section

namespace Cert.ReferenceIdeal.Hand

open Cert.ReferenceIdeal Cert.ReferenceIdeal.Gen Idealize.ShloMosaic

variable {F : FTy → Type} [FloatOps F]

/-- The fifteen curve parameters. -/
def params : FVec F S15 .f32 :=
  concatenate S15 0 [⟨S14, (addf (mulf (broadcastInDim S14 ![0] bcast_S1_S14_0 (shapeCast _ (id (constant S_ .f32 0x00000000#32)) shapeCasts_S_S1)) (subf (broadcastInDim S14 ![] bcast_S_S14 (constant S_ .f32 0x3F800000#32)) (Host.divf (sitofp .f32 (iotaInDim S14 32 0)) (broadcastInDim S14 ![] bcast_S_S14 (constant S_ .f32 0x41600000#32))))) (mulf (broadcastInDim S14 ![0] bcast_S1_S14_0 (shapeCast _ (id (constant S_ .f32 0x3F800000#32)) shapeCasts_S_S1)) (Host.divf (sitofp .f32 (iotaInDim S14 32 0)) (broadcastInDim S14 ![] bcast_S_S14 (constant S_ .f32 0x41600000#32)))))⟩, ⟨S1, (broadcastInDim S1 ![] bcast_S_S1 (id (constant S_ .f32 0x3F800000#32)))⟩] concatenates_S14_S1_S15_d0

/-- The parameters as a column. -/
def paramCol : FVec F S15x1 .f32 := broadcastInDim S15x1 ![0] bcast_S15_S15x1_0 params

/-- The table of the Bernstein weights. -/
def basis : FVec F S15x4 .f32 :=
  mulf (mulf (broadcastInDim S15x4 ![0, 1] bcast_S1x4_S15x4_0_1 (broadcastInDim S1x4 ![1] bcast_S4_S1x4_1 ((fun i => FloatOps.ofBits .f32 (lit1 (S4.rowMajor i))))))
    (Host.powf (broadcastInDim S15x4 ![0, 1] bcast_S15x1_S15x4_0_1 paramCol) (broadcastInDim S15x4 ![0, 1] bcast_S1x4_S15x4_0_1 (sitofp .f32 ((fun i => lit0 (S1x4.rowMajor i)))))))
    (Host.powf (broadcastInDim S15x4 ![0, 1] bcast_S15x1_S15x4_0_1 (subf (broadcastInDim S15x1 ![] bcast_S_S15x1 (constant S_ .f32 0x3F800000#32)) paramCol)) (broadcastInDim S15x4 ![0, 1] bcast_S1x4_S15x4_0_1 (sitofp .f32 ((fun i => lit2 (S1x4.rowMajor i))))))

/-- The control points in pixels. -/
def points (a0 : FVec F S32x4x2 .f32) : FVec F S32x4x2 .f32 :=
  mulf a0 (broadcastInDim S32x4x2 ![0, 1, 2] bcast_S1x1x2_S32x4x2_0_1_2 (broadcastInDim S1x1x2 ![2] bcast_S2_S1x1x2_2 (constant S2 .f32 0x43600000#32)))

/-- One coordinate of one curve sample: the weighted sum of the control points' coordinate. -/
def sample (a0 : FVec Ideal S32x4x2 .f32) (b : Fin 32) (s : Fin 15) (j : Fin 2) : EReal :=
  ∑ k : Fin 4, basis (F := Ideal) (ix2 s k) * points (F := Ideal) a0 (ix3 b k j)

end Cert.ReferenceIdeal.Hand

end
-- ==== Proof.Host.lean ====
/-
  What the kernel's host part hands to the kernel: the tables of the samples, read at an index.
-/
module

public import proofs.«01_k».proof.Proof.Bezier

@[expose] public section

noncomputable section

namespace Cert.KernelIdeal.Hand

open Cert.KernelIdeal Cert.KernelIdeal.Gen Cert.KernelIdeal.Value Idealize.ShloMosaic Idealize.ShloMosaic.TcCoe Idealize.ShloMosaic.StableHlo Idealize.SL.Sem

variable {F : FTy → Type} [FloatOps F] (m : (ℓ : Loc nD τ sig) → Buf (Elt F) ℓ)

open Cert.ReferenceIdeal.Hand (basis points)

/-- The curve samples as the kernel's host part computes them. -/
def samples (a0 : FVec F S32x4x2 .f32) : FVec F S32x15x2 .f32 :=
  Host.reduceAdd (mulf
      (broadcastInDim S32x15x4x2 ![0, 1, 2, 3] bcast_S1x15x4x1_S32x15x4x2_0_1_2_3 (broadcastInDim S1x15x4x1 ![1, 2] bcast_S15x4_S1x15x4x1_1_2 (basis (F := F))))
      (broadcastInDim S32x15x4x2 ![0, 1, 2, 3] bcast_S32x1x4x2_S32x15x4x2_0_1_2_3 (broadcastInDim S32x1x4x2 ![0, 2, 3] bcast_S32x4x2_S32x1x4x2_0_2_3 (points a0))))
    (constant S_ .f32 0x00000000#32) reducesTo_S32x15x4x2_S32x15x2_d2 h_S_

/-- The table of the samples' squared lengths. -/
def lengths (a0 : FVec F S32x4x2 .f32) : FVec F S32x15 .f32 :=
  Host.reduceAdd (mulf (samples a0) (samples a0)) (constant S_ .f32 0x00000000#32) reducesTo_S32x15x2_S32x15_d2 h_S_

/-- The table of minus twice the samples' first coordinates. -/
def firsts (a0 : FVec F S32x4x2 .f32) : FVec F S32x15 .f32 :=
  mulf (broadcastInDim S32x15 ![] bcast_S_S32x15 (constant S_ .f32 0xC0000000#32))
    (extf .f32 (truncf .bf16 (shapeCast S32x15 (extractStridedSlice S32x15x1 ![0, 0, 0] (samples a0) slices_S32x15x2_S32x15x1_0_0_0) shapeCasts_S32x15x1_S32x15) bitsLt_bf16_f32) bitsLt_bf16_f32)

/-- The table of minus twice the samples' second coordinates. -/
def seconds (a0 : FVec F S32x4x2 .f32) : FVec F S32x15 .f32 :=
  mulf (broadcastInDim S32x15 ![] bcast_S_S32x15 (constant S_ .f32 0xC0000000#32))
    (extf .f32 (truncf .bf16 (shapeCast S32x15 (extractStridedSlice S32x15x1 ![0, 0, 1] (samples a0) slices_S32x15x2_S32x15x1_0_0_1) shapeCasts_S32x15x1_S32x15) bitsLt_bf16_f32) bitsLt_bf16_f32)

/-- The table of the widths' reciprocals. -/
def inverses (a1 : FVec F S32 .f32) : FVec F S32 .f32 :=
  Host.divf (broadcastInDim S32 ![] bcast_S_S32 (constant S_ .f32 0x3F800000#32)) a1

set_option maxRecDepth 8192
set_option maxHeartbeats 4000000

/-- The host part leaves the samples' squared lengths in the first table. -/
theorem V_lengths (c : Dev nD) : V m c main_call0_v29 = lengths (m ((c : Thread nD τ).loc main_arg0)) := by
  unfold V
  simp only [hostOps0, TRef.binary, TRef.nullary, TRef.reshape, TRef.ternary, TRef.unary, TRef.toBuf, TRef.ofBuf, cast_eq]
  after_results_simp
  rfl

/-- The second table. -/
theorem V_firsts (c : Dev nD) : V m c main_call0_v35 = firsts (m ((c : Thread nD τ).loc main_arg0)) := by
  unfold V
  simp only [hostOps0, TRef.binary, TRef.nullary, TRef.reshape, TRef.ternary, TRef.unary, TRef.toBuf, TRef.ofBuf, cast_eq]
  after_results_simp
  rfl

/-- The third table. -/
theorem V_seconds (c : Dev nD) : V m c main_call0_v41 = seconds (m ((c : Thread nD τ).loc main_arg0)) := by
  unfold V
  simp only [hostOps0, TRef.binary, TRef.nullary, TRef.reshape, TRef.ternary, TRef.unary, TRef.toBuf, TRef.ofBuf, cast_eq]
  after_results_simp
  rfl

/-- The table of the widths' reciprocals. -/
theorem V_inverses (c : Dev nD) : V m c main_call0_v43 = inverses (m ((c : Thread nD τ).loc main_arg1)) := by
  unfold V
  simp only [hostOps0, TRef.binary, TRef.nullary, TRef.reshape, TRef.ternary, TRef.unary, TRef.toBuf, TRef.ofBuf, cast_eq]
  after_results_simp
  rfl

end Cert.KernelIdeal.Hand

end
-- ==== Proof.HostRead.lean ====
/-
  The kernel's host tables read at an index, as formulas of the curve samples.
-/
module

public import proofs.«01_k».proof.Proof.Host
public import Idealize.ShloMosaic.Lib.Pointwise.IndexBridge

@[expose] public section

set_option maxRecDepth 16384

noncomputable section

namespace Cert.KernelIdeal.Hand

open Cert.KernelIdeal Cert.KernelIdeal.Gen Idealize.ShloMosaic

open Cert.ReferenceIdeal.Hand (basis points sample)

/-- A curve sample of the kernel's host part is the weighted sum of the control points. -/
theorem samples_at (a0 : FVec Ideal S32x4x2 .f32) (b : Fin 32) (s : Fin 15) (j : Fin 2) :
    samples a0 (ix3 b s j) = sample a0 b s j := by
  unfold samples sample
  generalize basis (F := Ideal) = B
  generalize points (F := Ideal) a0 = K
  pointwise

/-- The squared length of a sample. -/
theorem lengths_at (a0 : FVec Ideal S32x4x2 .f32) (b : Fin 32) (s : Fin 15) :
    lengths a0 (ValueIdx.ix2 b s) = sample a0 b s 0 * sample a0 b s 0 + sample a0 b s 1 * sample a0 b s 1 := by
  rw [← ix2_eq_valueIdx, ← samples_at, ← samples_at]
  unfold lengths
  generalize samples a0 = K
  pointwise
  simp only [Fin.sum_univ_two]

/-- Minus twice the first coordinate of a sample. -/
theorem firsts_at (a0 : FVec Ideal S32x4x2 .f32) (b : Fin 32) (s : Fin 15) :
    firsts a0 (ValueIdx.ix2 b s) = Ideal.ofBits .f32 0xC0000000#32 * sample a0 b s 0 := by
  rw [← ix2_eq_valueIdx, ← samples_at]
  unfold firsts
  generalize samples a0 = K
  pointwise

/-- Minus twice the second coordinate of a sample. -/
theorem seconds_at (a0 : FVec Ideal S32x4x2 .f32) (b : Fin 32) (s : Fin 15) :
    seconds a0 (ValueIdx.ix2 b s) = Ideal.ofBits .f32 0xC0000000#32 * sample a0 b s 1 := by
  rw [← ix2_eq_valueIdx, ← samples_at]
  unfold seconds
  generalize samples a0 = K
  pointwise

/-- The reciprocal of a width. -/
theorem inverses_at (a1 : FVec Ideal S32 .f32) (b : Fin 32) :
    inverses a1 (ValueIdx.ix1 b) = Ideal.div 1 (a1 (ValueIdx.ix1 b)) := by
  rw [← ix1_eq_valueIdx]
  unfold inverses
  pointwise

end Cert.KernelIdeal.Hand

end
-- ==== Proof.Reference.lean ====
/-
  What the reference computes, in stages: the pixels' coordinates, the squared distances, the least distance, the image.
-/
module

public import proofs.«01_k».proof.Proof.Bezier

@[expose] public section

set_option maxRecDepth 16384

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- The reference's curve samples. -/
def curve (a0 : FVec F S32x4x2 .f32) : FVec F S32x15x2 .f32 :=
  transpose S32x15x2 [0, 2, 1] (Host.dotGeneral dot_S32x4x2_S15x4_S32x2x15_1_1_02_0_n_n none (points a0) basis) transposes_S32x2x15_S32x15x2_0_2_1

/-- The pixels' coordinates, in row-major order. -/
def pixels : FVec F S50176x2 .f32 :=
  concatenate S50176x2 1 [⟨S50176x1, (broadcastInDim S50176x1 ![0] bcast_S50176_S50176x1_0 (shapeCast _ (broadcastInDim S224x224 ![0] bcast_S224_S224x224_0 (sitofp .f32 (iotaInDim S224 32 0))) shapeCasts_S224x224_S50176))⟩, ⟨S50176x1, (broadcastInDim S50176x1 ![0] bcast_S50176_S50176x1_0 (shapeCast _ (broadcastInDim S224x224 ![1] bcast_S224_S224x224_1 (sitofp .f32 (iotaInDim S224 32 0))) shapeCasts_S224x224_S50176))⟩] concatenates_S50176x1_S50176x1_S50176x2_d1

/-- The pixels' squared lengths. -/
def pixelSquares : FVec F S50176 .f32 :=
  Host.reduceAdd (mulf pixels pixels) (constant S_ .f32 0x00000000#32) reducesTo_S50176x2_S50176_d1 h_S_

/-- The samples' squared lengths. -/
def curveSquares (C : FVec F S32x15x2 .f32) : FVec F S32x15 .f32 :=
  Host.reduceAdd (mulf C C) (constant S_ .f32 0x00000000#32) reducesTo_S32x15x2_S32x15_d2 h_S_

/-- The squared distances from the pixels to the samples, not below zero. -/
def squared (C : FVec F S32x15x2 .f32) : FVec F S32x50176x15 .f32 :=
  maximumf (broadcastInDim S32x50176x15 ![] bcast_S_S32x50176x15 (id (constant S_ .f32 0x00000000#32)))
    (addf (subf (broadcastInDim S32x50176x15 ![0, 1, 2] bcast_S1x50176x1_S32x50176x15_0_1_2 (broadcastInDim S1x50176x1 ![1] bcast_S50176_S1x50176x1_1 pixelSquares))
        (mulf (broadcastInDim S32x50176x15 ![] bcast_S_S32x50176x15 (constant S_ .f32 0x40000000#32))
          (transpose S32x50176x15 [0, 2, 1] (Host.dotGeneral dot_S32x15x2_S50176x2_S32x15x50176_2_1_01_0_n_n none C pixels) transposes_S32x15x50176_S32x50176x15_0_2_1)))
      (broadcastInDim S32x50176x15 ![0, 1, 2] bcast_S32x1x15_S32x50176x15_0_1_2 (broadcastInDim S32x1x15 ![0, 2] bcast_S32x15_S32x1x15_0_2 (curveSquares C))))

/-- The least distance from each pixel to the samples. -/
def nearest (C : FVec F S32x15x2 .f32) : FVec F S32x50176 .f32 :=
  Host.reduce FloatOps.minimumf (Host.sqrt (addf (squared C) (broadcastInDim S32x50176x15 ![] bcast_S_S32x50176x15 (constant S_ .f32 0x2B8CBCCC#32))))
    (constant S_ .f32 0x7F800000#32) reducesTo_S32x50176x15_S32x50176_d2 h_S_

/-- One number for each image, at every pixel of it. -/
def spread (a : FVec F S32 .f32) : FVec F S32x50176 .f32 :=
  broadcastInDim S32x50176 ![0, 1] bcast_S32x1_S32x50176_0_1 (broadcastInDim S32x1 ![0] bcast_S32_S32x1_0 a)

/-- The image from the least distances. -/
def shaded (D : FVec F S32x50176 .f32) (a1 a2 : FVec F S32 .f32) : FVec F S32x224x224 .f32 :=
  shapeCast _ (select (cmpf .olt D (spread a1))
    (subf (broadcastInDim S32x50176 ![] bcast_S_S32x50176 (constant S_ .f32 0x3F800000#32))
      (Host.powf (addf (Host.divf D (spread a1)) (broadcastInDim S32x50176 ![] bcast_S_S32x50176 (constant S_ .f32 0x358637BD#32))) (spread a2)))
    (broadcastInDim S32x50176 ![] bcast_S_S32x50176 (id (constant S_ .f32 0x00000000#32)))) shapeCasts_S32x50176_S32x224x224

/-- The reference's result is these stages, one after the other. -/
theorem result_stages (m : (ℓ : Loc nD τ sig) → Buf (Elt F) ℓ) (c : Dev nD) :
    Cert.ReferenceIdeal.Value.res_main_v65 m c
      = shaded (nearest (curve (m ((c.tc : Thread nD τ).loc main_arg0)))) (m ((c.tc : Thread nD τ).loc main_arg1)) (m ((c.tc : Thread nD τ).loc main_arg2)) :=
  rfl

end Cert.ReferenceIdeal.Hand

end
-- ==== Proof.ReferenceRead.lean ====
/-
  The reference's stages read at an index.
-/
module

public import proofs.«01_k».proof.Proof.Reference
public import proofs.«01_k».proof.Proof.Tables
public import Idealize.ShloMosaic.Lib.Pointwise.IndexBridge
public import Idealize.ShloMosaic.Lib.Tactic.CleanTypes

@[expose] public section

set_option maxRecDepth 16384

noncomputable section

namespace Cert.ReferenceIdeal.Hand

open Cert.ReferenceIdeal Cert.ReferenceIdeal.Gen Idealize.ShloMosaic
open Cert.KernelIdeal.Hand (place word_of_place)

/-- A sample of the reference's curve is the weighted sum of the control points. -/
theorem curve_at (a0 : FVec Ideal S32x4x2 .f32) (b : Fin 32) (s : Fin 15) (j : Fin 2) :
    curve a0 (ix3 b s j) = sample a0 b s j := by
  unfold curve sample
  generalize basis (F := Ideal) = B
  generalize points (F := Ideal) a0 = K
  pointwise [id_eq]
  exact Finset.sum_congr rfl fun k _ => mul_comm _ _

/-- The number of a pixel in row-major order. -/
def number (r q : Fin 224) : Fin 50176 := ⟨r.val * 224 + q.val, by have := r.isLt; have := q.isLt; omega⟩

/-- The first coordinate of a pixel is its row. -/
theorem pixels_row (r q : Fin 224) : pixels (F := Ideal) (ix2 (number r q) 0) = place r := by
  have h : (number r q).val / 224 = r.val := by
    have := q.isLt
    show (r.val * 224 + q.val) / 224 = r.val
    omega
  rw [← word_of_place]
  unfold pixels
  pointwise [id_eq]
  simp [h]
  rfl

/-- The second coordinate of a pixel is its column. -/
theorem pixels_col (r q : Fin 224) : pixels (F := Ideal) (ix2 (number r q) 1) = place q := by
  have h : (number r q).val % 224 = q.val := by
    have := q.isLt
    show (r.val * 224 + q.val) % 224 = q.val
    omega
  rw [← word_of_place]
  unfold pixels
  pointwise [id_eq]
  simp [h]
  rfl

/-- The squared distance from a pixel to a sample, as the reference computes it. -/
def rdist (y x sy sx : EReal) : EReal :=
  ((y * y + x * x) - Ideal.ofBits .f32 0x40000000#32 * (sy * y + sx * x)) + (sy * sy + sx * sx)

/-- The squared distances, at a pixel and a sample. -/
theorem squared_at (C : FVec Ideal S32x15x2 .f32) (b : Fin 32) (r q : Fin 224) (s : Fin 15) :
    squared C (ix3 b (number r q) s) = max 0 (rdist (place r) (place q) (C (ix3 b s 0)) (C (ix3 b s 1))) := by
  rw [← pixels_row r q, ← pixels_col r q]
  unfold squared pixelSquares curveSquares rdist
  generalize pixels (F := Ideal) = P
  pointwise [id_eq]
  simp only [Fin.sum_univ_two]

/-- The least distance, at a pixel. -/
theorem nearest_at (C : FVec Ideal S32x15x2 .f32) (b : Fin 32) (r q : Fin 224) :
    nearest C (ix2 b (number r q)) = Finset.fold min (Ideal.ofBits .f32 0x7F800000#32)
      (fun s : Fin 15 => Ideal.sqrt (squared C (ix3 b (number r q) s) + Ideal.ofBits .f32 0x2B8CBCCC#32)) Finset.univ := by
  unfold nearest
  generalize squared (F := Ideal) C = P
  pointwise [id_eq]

/-- The shade the reference gives a pixel at distance `d`. -/
def rshade (d w a : EReal) : EReal :=
  Scalar.select (Ideal.cmp .olt d w) (1 - Ideal.pow (Ideal.div d w + Ideal.ofBits .f32 0x358637BD#32) a) 0

/-- The image, at a pixel. -/
theorem shaded_at (D : FVec Ideal S32x50176 .f32) (a1 a2 : FVec Ideal S32 .f32) (b : Fin 32) (r q : Fin 224) :
    shaded D a1 a2 (ix3 b r q) = rshade (D (ix2 b (number r q))) (a1 (ix1 b)) (a2 (ix1 b)) := by
  unfold shaded spread rshade number
  pointwise [id_eq]

end Cert.ReferenceIdeal.Hand

end
-- ==== Proof.Scalars.lean ====
/-
  Facts about the extended reals, free of any program: the constants' values, the least of square roots, and the shade
  written with a logarithm against the shade written with a power.
-/
module

public import proofs.«01_k».proof.Proof.Block
public import proofs.«01_k».proof.Proof.ReferenceRead
public import Idealize.ShloMosaic.Lib.IdealHost

@[expose] public section

noncomputable section

namespace Cert.KernelIdeal.Hand

open Idealize.ShloMosaic
open Cert.ReferenceIdeal.Hand (rdist rshade)

/-! ## Constants -/

/-- The pattern of two. -/
theorem const_two : Ideal.ofBits .f32 0x40000000#32 = ((2 : ℝ) : EReal) := by
  simp [Ideal.ofBits, Ideal.ieee, -EReal.coe_mul]; norm_num

/-- The pattern of minus two. -/
theorem const_minus_two : Ideal.ofBits .f32 0xC0000000#32 = ((-2 : ℝ) : EReal) := by
  simp [Ideal.ofBits, Ideal.ieee, -EReal.coe_mul, -EReal.coe_neg]; norm_num

/-- The constant under the square root is a positive real. -/
theorem const_root : ∃ e : ℝ, 0 < e ∧ Ideal.ofBits .f32 0x2B8CBCCC#32 = (e : EReal) := by
  refine ⟨_, ?_, by simp [Ideal.ofBits, Ideal.ieee, -EReal.coe_mul]; rfl⟩
  positivity

/-- The constant added to the quotient is a positive real. -/
theorem const_eps : ∃ e : ℝ, 0 < e ∧ Ideal.ofBits .f32 0x358637BD#32 = (e : EReal) := by
  refine ⟨_, ?_, by simp [Ideal.ofBits, Ideal.ieee, -EReal.coe_mul]; rfl⟩
  positivity

/-- The starting value of the reference's minimum is plus infinity. -/
theorem const_top : Ideal.ofBits .f32 0x7F800000#32 = ⊤ := by
  simp [Ideal.ofBits, Ideal.ieee]

/-! ## The distance -/

/-- The two squared distances are one number when all coordinates are real. -/
theorem dist_eq (y x sy sx : ℝ) :
    kdist y x ((y : EReal) * y + (x : EReal) * x) (Ideal.ofBits .f32 0xC0000000#32 * sy) (Ideal.ofBits .f32 0xC0000000#32 * sx)
        ((sy : EReal) * sy + (sx : EReal) * sx) = rdist y x sy sx := by
  unfold kdist rdist
  rw [const_minus_two, const_two]
  simp only [← EReal.coe_mul, ← EReal.coe_add, ← EReal.coe_sub]
  congr 1
  ring

/-- With real coordinates the squared distance is a real. -/
theorem dist_real (y x sy sx : ℝ) : ∃ t : ℝ, rdist y x sy sx = (t : EReal) := by
  unfold rdist
  rw [const_two]
  exact ⟨y * y + x * x - 2 * (sy * y + sx * x) + (sy * sy + sx * sx), by norm_cast⟩

/-! ## The least distance -/

/-- The square root grows with its argument. -/
theorem sqrt_mono : Monotone Ideal.sqrt := by
  intro a b h
  induction a using EReal.rec with
  | bot => exact bot_le
  | top =>
    have hb : b = ⊤ := top_le_iff.mp h
    rw [hb]
  | coe r =>
    induction b using EReal.rec with
    | bot => exact absurd (le_bot_iff.mp h) (EReal.coe_ne_bot r)
    | top => exact le_top
    | coe t =>
      have hrt : r ≤ t := EReal.coe_le_coe_iff.mp h
      show (if r < 0 then (⊥ : EReal) else (Real.sqrt r : EReal)) ≤ (if t < 0 then (⊥ : EReal) else (Real.sqrt t : EReal))
      by_cases hr : r < 0
      · rw [if_pos hr]
        exact bot_le
      · rw [if_neg hr, if_neg (by linarith)]
        exact EReal.coe_le_coe_iff.mpr (Real.sqrt_le_sqrt hrt)

/-- The distance grows with the squared distance. -/
theorem kdmin_mono : Monotone kdmin := by
  intro a b h
  unfold kdmin
  exact sqrt_mono (add_le_add (max_le_max h le_rfl) le_rfl)

/-- A value is below the least of fifteen exactly when it is below each. -/
theorem le_least (v : EReal) (T : Fin 15 → EReal) : v ≤ least T ↔ ∀ s, v ≤ T s := by
  constructor
  · intro h s
    unfold least at h
    simp only [le_min_iff] at h
    fin_cases s <;> tauto
  · intro h
    unfold least
    simp only [le_min_iff]
    simp only [h, and_self]

/-- The distance of the least squared distance is the least of the distances. -/
theorem kdmin_least (T : Fin 15 → EReal) : kdmin (least T) = least fun s => kdmin (T s) := by
  unfold least
  simp only [kdmin_mono.map_min]

/-- The reference's minimum, from plus infinity over all samples, is the least of the fifteen. -/
theorem fold_least (T : Fin 15 → EReal) : Finset.fold min (Ideal.ofBits .f32 0x7F800000#32) T Finset.univ = least T := by
  refine eq_of_forall_le_iff fun v => ?_
  rw [le_least, Finset.le_fold_min, const_top]
  simp only [le_top, Finset.mem_univ, true_imp_iff, true_and]

/-- The least of fifteen is one of them. -/
theorem least_mem (T : Fin 15 → EReal) : ∃ s, least T = T s := by
  obtain ⟨s, -, hs⟩ := Finset.exists_min_image (Finset.univ : Finset (Fin 15)) T ⟨0, Finset.mem_univ _⟩
  refine ⟨s, le_antisymm ((le_least _ T).mp le_rfl s) ?_⟩
  exact (le_least _ T).mpr fun t => hs t (Finset.mem_univ t)

/-- The distance of a real squared distance is a positive real. -/
theorem kdmin_real (t : ℝ) : ∃ d : ℝ, 0 < d ∧ kdmin t = (d : EReal) := by
  obtain ⟨e, he, hc⟩ := const_root
  unfold kdmin
  rw [hc, Ideal.ofBits_zero_f32]
  have hm : max (t : EReal) 0 = ((max t 0 : ℝ) : EReal) := by
    exact (EReal.coe_strictMono.monotone.map_max (a := t) (b := 0)).symm
  have hp : 0 < max t 0 + e := by
    have := le_max_right t 0
    linarith
  refine ⟨Real.sqrt (max t 0 + e), Real.sqrt_pos.mpr hp, ?_⟩
  rw [hm, ← EReal.coe_add]
  show (if max t 0 + e < 0 then (⊥ : EReal) else (Real.sqrt (max t 0 + e) : EReal)) = _
  rw [if_neg (not_lt.mpr hp.le)]

/-! ## The shade -/

/-- The exponential of an exponent times the logarithm of a positive real is the power, infinite exponents included. -/
theorem exp_log (x : ℝ) (hx : 0 < x) (a : EReal) : Ideal.exp (a * Ideal.log (x : EReal)) = Ideal.pow (x : EReal) a := by
  have hl : Ideal.log (x : EReal) = ((Real.log x : ℝ) : EReal) := by
    show (if x ≤ 0 then (⊥ : EReal) else (Real.log x : EReal)) = _
    rw [if_neg (not_le.mpr hx)]
  rw [hl]
  induction a using EReal.rec with
  | coe r =>
    rw [← EReal.coe_mul]
    show ((Real.exp (r * Real.log x) : ℝ) : EReal) = ((Real.rpow x r : ℝ) : EReal)
    rw [mul_comm]
    exact congrArg _ (Real.rpow_def_of_pos hx r).symm
  | top =>
    show _ = (if x < 0 then (⊥ : EReal) else if 1 < x then ⊤ else if x = 1 then 1 else 0)
    rw [if_neg (not_lt.mpr hx.le)]
    rcases lt_trichotomy 1 x with h | h | h
    · rw [if_pos h, EReal.top_mul_coe_of_pos (Real.log_pos h)]
      rfl
    · subst h
      rw [if_neg (lt_irrefl _), if_pos rfl, Real.log_one, EReal.coe_zero, mul_zero]
      show ((Real.exp 0 : ℝ) : EReal) = 1
      rw [Real.exp_zero]
      rfl
    · rw [if_neg (not_lt.mpr h.le), if_neg h.ne, EReal.top_mul_coe_of_neg (Real.log_neg hx h)]
      rfl
  | bot =>
    show _ = (if x < 0 then (⊥ : EReal) else if 1 < x then 0 else if x = 1 then 1 else ⊤)
    rw [if_neg (not_lt.mpr hx.le)]
    rcases lt_trichotomy 1 x with h | h | h
    · rw [if_pos h, EReal.bot_mul_coe_of_pos (Real.log_pos h)]
      rfl
    · subst h
      rw [if_neg (lt_irrefl _), if_pos rfl, Real.log_one, EReal.coe_zero, mul_zero]
      show ((Real.exp 0 : ℝ) : EReal) = 1
      rw [Real.exp_zero]
      rfl
    · rw [if_neg (not_lt.mpr h.le), if_neg h.ne, EReal.bot_mul_coe_of_neg (Real.log_neg hx h)]
      rfl

/-- A positive real over a larger width, plus the constant, is a positive real. -/
theorem base_real (d : ℝ) (hd : 0 < d) (w : EReal) (h : (d : EReal) < w) :
    ∃ x : ℝ, 0 < x ∧ Ideal.div d w + Ideal.ofBits .f32 0x358637BD#32 = (x : EReal) := by
  obtain ⟨e, he, hc⟩ := const_eps
  have hw : (0 : EReal) < w := lt_trans (EReal.coe_pos.mpr hd) h
  rw [hc]
  unfold Ideal.div
  rw [if_neg hw.ne']
  induction w using EReal.rec with
  | bot => exact absurd hw (not_lt.mpr bot_le)
  | top =>
    refine ⟨e, he, ?_⟩
    rw [EReal.inv_top, mul_zero, zero_add]
  | coe r =>
    have hr : 0 < r := EReal.coe_pos.mp hw
    refine ⟨d * r⁻¹ + e, by positivity, ?_⟩
    rw [← EReal.coe_inv, ← EReal.coe_mul, ← EReal.coe_add]

/-- The kernel's shade is the reference's at a positive real distance, whatever the width and the exponent. -/
theorem shade_eq (d : ℝ) (hd : 0 < d) (w a : EReal) : kshade d w (Ideal.div 1 w) a = rshade d w a := by
  unfold kshade rshade
  rw [Ideal.ofBits_zero_f32, Ideal.ofBits_one_f32]
  by_cases h : (d : EReal) < w
  · have hw : w ≠ 0 := (lt_trans (EReal.coe_pos.mpr hd) h).ne'
    obtain ⟨x, hx, hb⟩ := base_real d hd w h
    rw [Ideal.mul_one_div hw, hb, exp_log x hx a]
  · have hc : Ideal.cmp .olt (d : EReal) w = 0#1 := by
      show BitVec.ofBool (decide ((d : EReal) < w)) = 0#1
      rw [decide_eq_false h]
      rfl
    rw [hc]
    rfl

end Cert.KernelIdeal.Hand

end
-- ==== Proof.Weights.lean ====
/-
  The curve samples are real numbers when the control points are.
-/
module

public import proofs.«01_k».proof.Proof.Bezier

@[expose] public section

set_option maxRecDepth 16384

noncomputable section

namespace Cert.ReferenceIdeal.Hand

open Cert.ReferenceIdeal Cert.ReferenceIdeal.Gen Idealize.ShloMosaic

/-- An extended real that is a real number. -/
def Finite (x : EReal) : Prop := ∃ r : ℝ, x = (r : EReal)

theorem Finite.add {x y : EReal} (hx : Finite x) (hy : Finite y) : Finite (x + y) := by
  obtain ⟨r, rfl⟩ := hx
  obtain ⟨t, rfl⟩ := hy
  exact ⟨r + t, (EReal.coe_add r t).symm⟩

theorem Finite.sub {x y : EReal} (hx : Finite x) (hy : Finite y) : Finite (x - y) := by
  obtain ⟨r, rfl⟩ := hx
  obtain ⟨t, rfl⟩ := hy
  exact ⟨r - t, (EReal.coe_sub r t).symm⟩

theorem Finite.mul {x y : EReal} (hx : Finite x) (hy : Finite y) : Finite (x * y) := by
  obtain ⟨r, rfl⟩ := hx
  obtain ⟨t, rfl⟩ := hy
  exact ⟨r * t, (EReal.coe_mul r t).symm⟩

/-- A real power of a real is a real. -/
theorem Finite.pow {x y : EReal} (hx : Finite x) (hy : Finite y) : Finite (Ideal.pow x y) := by
  obtain ⟨r, rfl⟩ := hx
  obtain ⟨t, rfl⟩ := hy
  exact ⟨Real.rpow r t, rfl⟩

/-- A real over a real that is not zero is a real. -/
theorem Finite.div {x y : EReal} (hx : Finite x) (hy : Finite y) (h0 : y ≠ 0) : Finite (Ideal.div x y) := by
  obtain ⟨r, rfl⟩ := hx
  obtain ⟨t, rfl⟩ := hy
  unfold Ideal.div
  rw [if_neg h0]
  exact ⟨r * t⁻¹, by rw [← EReal.coe_inv, ← EReal.coe_mul]⟩

/-- A pattern whose exponent is not the largest is a real. -/
theorem finite_pattern (b : BitVec 32) (h : (b.extractLsb' 23 8).toNat ≠ 255) : Finite (Ideal.ofBits .f32 b) := by
  show Finite (Ideal.ieee 8 23 b)
  unfold Ideal.ieee
  dsimp only
  rw [if_neg (show ¬ (b.extractLsb' 23 8).toNat = 2 ^ 8 - 1 from h)]
  split
  · exact ⟨_, rfl⟩
  · exact ⟨_, rfl⟩

/-- A word read as a signed number is a real. -/
theorem finite_word (b : BitVec 32) : Finite (((b.toInt : ℝ) : EReal)) := ⟨_, rfl⟩

/-- Every curve parameter is a real. -/
theorem params_real (s : Fin 15) : Finite (params (F := Ideal) (ix1 s)) := by
  have h14 : Ideal.ofBits .f32 0x41600000#32 ≠ 0 := by
    have h : Ideal.ofBits .f32 0x41600000#32 = ((14 : ℝ) : EReal) := by
      simp [Ideal.ofBits, Ideal.ieee, -EReal.coe_mul]; norm_num
    rw [h]
    exact_mod_cast (by norm_num : (14 : ℝ) ≠ 0)
  have f14 := finite_pattern 0x41600000#32 (by decide)
  have f1 : Finite (1 : EReal) := ⟨1, rfl⟩
  have f0 : Finite (0 : EReal) := ⟨0, rfl⟩
  unfold params
  pointwise [id_eq]
  split
  · have fs := (finite_word (BitVec.ofNat 32 s.val)).div f14 h14
    exact (f0.mul (f1.sub fs)).add (by first | exact fs | exact f1.mul fs)
  · exact f1

/-- Every Bernstein weight is a real. -/
theorem basis_real (s : Fin 15) (k : Fin 4) : Finite (basis (F := Ideal) (ix2 s k)) := by
  have ft := params_real s
  have f1 : Finite (1 : EReal) := ⟨1, rfl⟩
  unfold basis paramCol
  revert ft
  generalize params (F := Ideal) = T
  intro ft
  pointwise
  exact ((finite_pattern _ ((by decide : ∀ n : Fin 4, ((lit1 n).extractLsb' 23 8).toNat ≠ 255) _)).mul (ft.pow (finite_word _))).mul
    ((f1.sub ft).pow (finite_word _))

/-- A curve sample is a real when every coordinate of the control points is. -/
theorem sample_real (a0 : FVec Ideal S32x4x2 .f32) (h : ∀ i, Finite (a0 i)) (b : Fin 32) (s : Fin 15) (j : Fin 2) :
    Finite (sample a0 b s j) := by
  have hk : ∀ k : Fin 4, Finite (basis (F := Ideal) (ix2 s k) * points (F := Ideal) a0 (ix3 b k j)) := fun k => by
    refine (basis_real s k).mul ?_
    unfold points
    pointwise
    exact (h _).mul (finite_pattern _ (by decide))
  unfold sample
  rw [Fin.sum_univ_four]
  exact (((hk 0).add (hk 1)).add (hk 2)).add (hk 3)

end Cert.ReferenceIdeal.Hand

end
-- ==== Proof.Pixel.lean ====
/-
  The kernel's result is the reference's result, pixel by pixel, when the control points are real numbers.
-/
module

public import proofs.«01_k».proof.Proof.Sweep
public import proofs.«01_k».proof.Proof.HostRead
public import proofs.«01_k».proof.Proof.Scalars
public import proofs.«01_k».proof.Proof.Weights

@[expose] public section

noncomputable section

namespace Cert.KernelIdeal.Hand

open Cert.KernelIdeal Cert.KernelIdeal.Gen Cert.KernelIdeal.Value Idealize.ShloMosaic Idealize.ShloMosaic.TcCoe Idealize.SL.Sem
open Cert.ReferenceIdeal.Hand (Finite sample sample_real rdist rshade curve curve_at nearest nearest_at shaded shaded_at squared_at)

/-- A pixel as a formula of the curve samples: the shade at the least distance. -/
def pixel (sy sx : Fin 15 → EReal) (w a y x : EReal) : EReal :=
  rshade (least fun s => kdmin (rdist y x (sy s) (sx s))) w a

variable (m : (ℓ : Loc nD τ sig) → Buf (Elt Ideal) ℓ)

/-- The kernel's pixel, from the argument arrays. -/
theorem kernel_pixel (c : Dev nD) (h : ∀ i, Finite ((m ((c : Thread nD τ).loc main_arg0) : FVec Ideal S32x4x2 .f32) i))
    (b : Fin 32) (r q : Fin 224) :
    G6 m c (ValueIdx.ix3 b r q)
      = pixel (fun s => sample (m ((c : Thread nD τ).loc main_arg0)) b s 0) (fun s => sample (m ((c : Thread nD τ).loc main_arg0)) b s 1)
          ((m ((c : Thread nD τ).loc main_arg1) : FVec Ideal S32 .f32) (ValueIdx.ix1 b))
          ((m ((c : Thread nD τ).loc main_arg2) : FVec Ideal S32 .f32) (ValueIdx.ix1 b)) (place r) (place q) := by
  rw [result_at]
  unfold shown kpixel
  rw [V_lengths, V_firsts, V_seconds, V_inverses, V_main_arg1, V_main_arg2, inverses_at]
  simp only [lengths_at, firsts_at, seconds_at]
  generalize m ((c : Thread nD τ).loc main_arg1) = a1
  generalize m ((c : Thread nD τ).loc main_arg2) = a2
  revert h
  generalize m ((c : Thread nD τ).loc main_arg0) = a0
  intro h
  have h0 := fun s => sample_real a0 h b s 0
  have h1 := fun s => sample_real a0 h b s 1
  choose sy hy using h0
  choose sx hx using h1
  simp only [hy, hx]
  unfold pixel
  have hd : (fun s => kdist (place r) (place q) (place r * place r + place q * place q) (Ideal.ofBits .f32 0xC0000000#32 * (sy s : EReal))
      (Ideal.ofBits .f32 0xC0000000#32 * (sx s : EReal)) ((sy s : EReal) * sy s + (sx s : EReal) * sx s))
      = fun s => rdist (place r) (place q) (sy s : EReal) (sx s : EReal) := funext fun s => dist_eq r.val q.val (sy s) (sx s)
  rw [hd, kdmin_least]
  obtain ⟨s, hs⟩ := least_mem fun s => kdmin (rdist (place r) (place q) (sy s : EReal) (sx s : EReal))
  obtain ⟨t, ht⟩ := dist_real r.val q.val (sy s) (sx s)
  obtain ⟨d, hd0, hdt⟩ := kdmin_real t
  have e : (least fun s => kdmin (rdist (place r) (place q) (sy s : EReal) (sx s : EReal))) = (d : EReal) := by
    rw [hs, ← hdt, ← ht]
    rfl
  rw [e]
  exact shade_eq d hd0 _ _

/-- The reference's pixel, from the argument arrays. -/
theorem reference_pixel (a0 : FVec Ideal S32x4x2 .f32) (a1 a2 : FVec Ideal S32 .f32) (b : Fin 32) (r q : Fin 224) :
    shaded (nearest (curve a0)) a1 a2 (ValueIdx.ix3 b r q)
      = pixel (fun s => sample a0 b s 0) (fun s => sample a0 b s 1) (a1 (ValueIdx.ix1 b)) (a2 (ValueIdx.ix1 b)) (place r) (place q) := by
  have e : (fun s : Fin 15 => Ideal.sqrt (Cert.ReferenceIdeal.Hand.squared (curve a0) (ix3 b (Cert.ReferenceIdeal.Hand.number r q) s)
        + Ideal.ofBits .f32 0x2B8CBCCC#32))
      = fun s => kdmin (rdist (place r) (place q) (sample a0 b s 0) (sample a0 b s 1)) := funext fun s => by
    unfold kdmin
    rw [squared_at, curve_at, curve_at, Ideal.ofBits_zero_f32, max_comm]
  rw [← ix3_eq_valueIdx, ← ix1_eq_valueIdx, shaded_at, nearest_at, fold_least, e]
  rfl

/-- The kernel's whole result is the reference's. -/
theorem result_eq (c : Dev nD) (h : ∀ i, Finite ((m ((c : Thread nD τ).loc main_arg0) : FVec Ideal S32x4x2 .f32) i)) :
    (G6 m c : FVec Ideal S32x224x224 .f32) = shaded (F := Ideal) (nearest (curve (m ((c : Thread nD τ).loc main_arg0)))) (m ((c : Thread nD τ).loc main_arg1)) (m ((c : Thread nD τ).loc main_arg2)) := by
  funext i
  have hi : i = ValueIdx.ix3 (i 0) (i 1) (i 2) := ValueIdx.eq_ix3 (n0 := 32) (n1 := 224) (n2 := 224) i
  rw [hi]
  exact (kernel_pixel m c h (i 0) (i 1) (i 2)).trans (reference_pixel _ _ _ (i 0) (i 1) (i 2)).symm

end Cert.KernelIdeal.Hand

end
-- ==== Proof.lean ====
/-
  The proof of `Cert.Claim`: the frames from the generated frames and the reference's run, and the value claim from the
  equation of the kernel's result with the reference's (Proof/Pixel.lean).
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Pixel
public import Idealize.ShloMosaic.Adequacy
public import Idealize.ShloMosaic.Init
public import Idealize.ShloMosaic.Lib.Quiescent

@[expose] public section

noncomputable section

namespace Cert.Proof

open Idealize.ShloMosaic Idealize.SL.Sem

/-- The precondition's one side condition: a scalar spreads over the array of control points. -/
theorem spreads : Cert.Pre_finite_points.Facts := ⟨by decide⟩

/-- Where the precondition holds, every coordinate of the control points is a real number. -/
theorem points_real (a0 : FVec Ideal Cert.Pre_finite_points.S32x4x2 .f32) (a1 a2 : FVec Ideal Cert.Pre_finite_points.S32 .f32)
    (h : letI := spreads; Cert.Pre_finite_points.fn (F := Ideal) a0 a1 a2 = fun _ => 1#1) (i : Cert.Pre_finite_points.S32x4x2.Idx) :
    Cert.ReferenceIdeal.Hand.Finite (a0 i) := by
  have e : BitVec.ofBool (decide (max (a0 i) (-(a0 i)) < Ideal.ofBits .f32 0x7F800000#32)) = 1#1 := congrFun h i
  rw [Cert.KernelIdeal.Hand.const_top] at e
  have hlt : max (a0 i) (-(a0 i)) < (⊤ : EReal) := by
    by_contra hn
    rw [decide_eq_false hn] at e
    exact absurd e (by decide)
  obtain ⟨h1, h2⟩ := max_lt_iff.mp hlt
  have hb : a0 i ≠ (⊥ : EReal) := fun hb => by
    rw [hb, EReal.neg_bot] at h2
    exact lt_irrefl _ h2
  exact ⟨EReal.toReal (a0 i), (EReal.coe_toReal h1.ne hb).symm⟩

/-- The reference runs, keeps its arguments, and ends quiescent. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel and the reference end with equal results, on real control points. -/
theorem algebraic_KernelIdeal_ReferenceIdeal_pre_finite_points :
    algebraic_KernelIdeal_ReferenceIdeal_pre_finite_points (hPre_finite_points := spreads) := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Hand.result_stages, (hagree c).1, (hagree c).2.1, (hagree c).2.2]
  exact (Cert.KernelIdeal.Hand.result_eq m c (points_real _ _ _ (hpre c))).symm

/-- Every claim of the certificate. -/
theorem claim : Cert.Claim := ⟨Cert.Kernel.Gen.facts, Cert.KernelIdeal.Gen.facts, Cert.ReferenceIdeal.Gen.facts, spreads,
  fun m ρ _ => Cert.Kernel.Gen.frame m ρ, fun m ρ _ => Cert.KernelIdeal.Gen.frame m ρ, fun m ρ _ => Cert.KernelIdeal.Gen.frame m ρ,
  quiescent_ReferenceIdeal, fun m ρ _ => quiescent_ReferenceIdeal m ρ trivial, (trivial : preserves_Kernel_KernelIdeal),
  algebraic_KernelIdeal_ReferenceIdeal_pre_finite_points⟩

end Cert.Proof

end
